-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![1, 1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x1024x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S256x1024 : Shape := ⟨2, ![256, 1024]⟩
abbrev S1280x8x128 : Shape := ⟨3, ![1280, 8, 128]⟩
abbrev S4x256x1024 : Shape := ⟨3, ![4, 256, 1024]⟩
abbrev S3x256x1024 : Shape := ⟨3, ![3, 256, 1024]⟩
abbrev S5 : Shape := ⟨1, ![5]⟩
abbrev S3 : Shape := ⟨1, ![3]⟩
abbrev S4 : Shape := ⟨1, ![4]⟩
abbrev S128x8x128 : Shape := ⟨3, ![128, 8, 128]⟩
abbrev S1 : Shape := ⟨1, ![1]⟩
abbrev S_ : Shape := ⟨0, ![]⟩
abbrev S1152x8x128 : Shape := ⟨3, ![1152, 8, 128]⟩
abbrev S1x1152x8x128 : Shape := ⟨4, ![1, 1152, 8, 128]⟩
abbrev S256x512 : Shape := ⟨2, ![256, 512]⟩
abbrev S256x128 : Shape := ⟨2, ![256, 128]⟩
abbrev S512x1x128 : Shape := ⟨3, ![512, 1, 128]⟩
abbrev S512x128 : Shape := ⟨2, ![512, 128]⟩
abbrev S256 : Shape := ⟨1, ![256]⟩
abbrev S256x1 : Shape := ⟨2, ![256, 1]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S128x1024 : Shape := ⟨2, ![128, 1024]⟩
abbrev S1x128x1024 : Shape := ⟨3, ![1, 128, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S256x1024, .f32⟩
  | .local _ .vmem, ⟨2, _⟩ => ⟨S1024x1024, .f32⟩
  | .local _ .vmem, ⟨3, _⟩ => ⟨S1280x8x128, .f32⟩
  | .local _ .vmem, ⟨4, _⟩ => ⟨S1280x8x128, .f32⟩
  | .local _ .vmem, ⟨5, _⟩ => ⟨S1024x1024, .f32⟩
  | .local _ .vmem, ⟨6, _⟩ => ⟨S4x256x1024, .bf16⟩
  | .local _ .vmem, ⟨7, _⟩ => ⟨S4x256x1024, .bf16⟩
  | .local _ .vmem, ⟨8, _⟩ => ⟨S3x256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 4 → Nat :=
  let c0_i32_7 : BitVec 32 := 0#32
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v7 : BitVec 32 := Scalar.muli v2 c8_i32
  let c0_i32_11 : BitVec 32 := 0#32
  ![0, 0, v7.toNat, 0]
def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.addi v2 c1_i32_19
  let c4_i32_20 : BitVec 32 := 4#32
  let c0_i32_21 : BitVec 32 := 0#32
  let v29 : BitVec 1 := Scalar.cmpi .eq c4_i32_20 c0_i32_21
  let c1_i32_22 : BitVec 32 := 1#32
  let v30 : BitVec 32 := Scalar.select v29 c1_i32_22 c4_i32_20
  let v31 : BitVec 32 := Scalar.remsi v28 v30
  let c0_i32_24 : BitVec 32 := 0#32
  let v33 : BitVec 1 := Scalar.cmpi .slt v31 c0_i32_24
  let c0_i32_25 : BitVec 32 := 0#32
  let v34 : BitVec 1 := Scalar.cmpi .slt v30 c0_i32_25
  let v35 : BitVec 1 := Scalar.xori v33 v34
  let c0_i32_23 : BitVec 32 := 0#32
  let v32 : BitVec 1 := Scalar.cmpi .ne v31 c0_i32_23
  let v36 : BitVec 1 := Scalar.andi v35 v32
  let v37 : BitVec 32 := Scalar.addi v31 v30
  let v38 : BitVec 32 := Scalar.select v36 v37 v31
  let c1_i32_27 : BitVec 32 := 1#32
  let v39 : BitVec 32 := Scalar.muli v38 c1_i32_27
  let v40 : BitVec 32 := Scalar.addi c0_i32_28 v39
  v40.toNat
def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_29 : BitVec 32 := 2#32
  let v41 : BitVec 32 := Scalar.addi v2 c2_i32_29
  let c4_i32_30 : BitVec 32 := 4#32
  let c0_i32_31 : BitVec 32 := 0#32
  let v42 : BitVec 1 := Scalar.cmpi .eq c4_i32_30 c0_i32_31
  let c1_i32_32 : BitVec 32 := 1#32
  let v43 : BitVec 32 := Scalar.select v42 c1_i32_32 c4_i32_30
  let v44 : BitVec 32 := Scalar.remsi v41 v43
  let c0_i32_34 : BitVec 32 := 0#32
  let v46 : BitVec 1 := Scalar.cmpi .slt v44 c0_i32_34
  let c0_i32_35 : BitVec 32 := 0#32
  let v47 : BitVec 1 := Scalar.cmpi .slt v43 c0_i32_35
  let v48 : BitVec 1 := Scalar.xori v46 v47
  let c0_i32_33 : BitVec 32 := 0#32
  let v45 : BitVec 1 := Scalar.cmpi .ne v44 c0_i32_33
  let v49 : BitVec 1 := Scalar.andi v48 v45
  let v50 : BitVec 32 := Scalar.addi v44 v43
  let v51 : BitVec 32 := Scalar.select v49 v50 v44
  let c1_i32_37 : BitVec 32 := 1#32
  let v52 : BitVec 32 := Scalar.muli v51 c1_i32_37
  let v53 : BitVec 32 := Scalar.addi c0_i32_38 v52
  v53.toNat
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_39 : BitVec 32 := 3#32
  let v54 : BitVec 32 := Scalar.addi v2 c3_i32_39
  let c4_i32_40 : BitVec 32 := 4#32
  let c0_i32_41 : BitVec 32 := 0#32
  let v55 : BitVec 1 := Scalar.cmpi .eq c4_i32_40 c0_i32_41
  let c1_i32_42 : BitVec 32 := 1#32
  let v56 : BitVec 32 := Scalar.select v55 c1_i32_42 c4_i32_40
  let v57 : BitVec 32 := Scalar.remsi v54 v56
  let c0_i32_44 : BitVec 32 := 0#32
  let v59 : BitVec 1 := Scalar.cmpi .slt v57 c0_i32_44
  let c0_i32_45 : BitVec 32 := 0#32
  let v60 : BitVec 1 := Scalar.cmpi .slt v56 c0_i32_45
  let v61 : BitVec 1 := Scalar.xori v59 v60
  let c0_i32_43 : BitVec 32 := 0#32
  let v58 : BitVec 1 := Scalar.cmpi .ne v57 c0_i32_43
  let v62 : BitVec 1 := Scalar.andi v61 v58
  let v63 : BitVec 32 := Scalar.addi v57 v56
  let v64 : BitVec 32 := Scalar.select v62 v63 v57
  let c1_i32_47 : BitVec 32 := 1#32
  let v65 : BitVec 32 := Scalar.muli v64 c1_i32_47
  let v66 : BitVec 32 := Scalar.addi c0_i32_48 v65
  v66.toNat
def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_59 : BitVec 32 := 1#32
  let v76 : BitVec 32 := Scalar.addi v2 c1_i32_59
  let c4_i32_60 : BitVec 32 := 4#32
  let c0_i32_61 : BitVec 32 := 0#32
  let v77 : BitVec 1 := Scalar.cmpi .eq c4_i32_60 c0_i32_61
  let c1_i32_62 : BitVec 32 := 1#32
  let v78 : BitVec 32 := Scalar.select v77 c1_i32_62 c4_i32_60
  let v79 : BitVec 32 := Scalar.remsi v76 v78
  let c0_i32_64 : BitVec 32 := 0#32
  let v81 : BitVec 1 := Scalar.cmpi .slt v79 c0_i32_64
  let c0_i32_65 : BitVec 32 := 0#32
  let v82 : BitVec 1 := Scalar.cmpi .slt v78 c0_i32_65
  let v83 : BitVec 1 := Scalar.xori v81 v82
  let c0_i32_63 : BitVec 32 := 0#32
  let v80 : BitVec 1 := Scalar.cmpi .ne v79 c0_i32_63
  let v84 : BitVec 1 := Scalar.andi v83 v80
  let v85 : BitVec 32 := Scalar.addi v79 v78
  let v86 : BitVec 32 := Scalar.select v84 v85 v79
  let c1_i32_70 : BitVec 32 := 1#32
  let v87 : BitVec 32 := Scalar.muli v86 c1_i32_70
  let v88 : BitVec 32 := Scalar.addi c0_i32_71 v87
  v88.toNat
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v97 : BitVec 32 := Scalar.addi v2 c2_i32_76
  let c4_i32_77 : BitVec 32 := 4#32
  let c0_i32_78 : BitVec 32 := 0#32
  let v98 : BitVec 1 := Scalar.cmpi .eq c4_i32_77 c0_i32_78
  let c1_i32_79 : BitVec 32 := 1#32
  let v99 : BitVec 32 := Scalar.select v98 c1_i32_79 c4_i32_77
  let v100 : BitVec 32 := Scalar.remsi v97 v99
  let c0_i32_81 : BitVec 32 := 0#32
  let v102 : BitVec 1 := Scalar.cmpi .slt v100 c0_i32_81
  let c0_i32_82 : BitVec 32 := 0#32
  let v103 : BitVec 1 := Scalar.cmpi .slt v99 c0_i32_82
  let v104 : BitVec 1 := Scalar.xori v102 v103
  let c0_i32_80 : BitVec 32 := 0#32
  let v101 : BitVec 1 := Scalar.cmpi .ne v100 c0_i32_80
  let v105 : BitVec 1 := Scalar.andi v104 v101
  let v106 : BitVec 32 := Scalar.addi v100 v99
  let v107 : BitVec 32 := Scalar.select v105 v106 v100
  let c1_i32_87 : BitVec 32 := 1#32
  let v108 : BitVec 32 := Scalar.muli v107 c1_i32_87
  let v109 : BitVec 32 := Scalar.addi c0_i32_88 v108
  v109.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_93 : BitVec 32 := 3#32
  let v118 : BitVec 32 := Scalar.addi v2 c3_i32_93
  let c4_i32_94 : BitVec 32 := 4#32
  let c0_i32_95 : BitVec 32 := 0#32
  let v119 : BitVec 1 := Scalar.cmpi .eq c4_i32_94 c0_i32_95
  let c1_i32_96 : BitVec 32 := 1#32
  let v120 : BitVec 32 := Scalar.select v119 c1_i32_96 c4_i32_94
  let v121 : BitVec 32 := Scalar.remsi v118 v120
  let c0_i32_98 : BitVec 32 := 0#32
  let v123 : BitVec 1 := Scalar.cmpi .slt v121 c0_i32_98
  let c0_i32_99 : BitVec 32 := 0#32
  let v124 : BitVec 1 := Scalar.cmpi .slt v120 c0_i32_99
  let v125 : BitVec 1 := Scalar.xori v123 v124
  let c0_i32_97 : BitVec 32 := 0#32
  let v122 : BitVec 1 := Scalar.cmpi .ne v121 c0_i32_97
  let v126 : BitVec 1 := Scalar.andi v125 v122
  let v127 : BitVec 32 := Scalar.addi v121 v120
  let v128 : BitVec 32 := Scalar.select v126 v127 v121
  let c1_i32_104 : BitVec 32 := 1#32
  let v129 : BitVec 32 := Scalar.muli v128 c1_i32_104
  let v130 : BitVec 32 := Scalar.addi c0_i32_105 v129
  v130.toNat
def k0_off2 (d0 : Dev nD) (c0_i32_139 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_138 : BitVec 32 := 4#32
  let v176 : BitVec 32 := Scalar.addi v2 c4_i32_138
  let v177 : BitVec 32 := Scalar.subi v176 c0_i32_139
  let c4_i32_140 : BitVec 32 := 4#32
  let v178 : BitVec 32 := Scalar.remsi v177 c4_i32_140
  let c256_i32_142 : BitVec 32 := 256#32
  let v181 : BitVec 32 := Scalar.muli v178 c256_i32_142
  let v183 : Index := Scalar.indexCast v181
  let c0_143 : Index := 0#32
  let c0_144 : Index := 0#32
  ![v183.toNat, 0, 0]
def k0_off3 (d0 : Dev nD) (c0_i32_139 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_138 : BitVec 32 := 4#32
  let v176 : BitVec 32 := Scalar.addi v2 c4_i32_138
  let v177 : BitVec 32 := Scalar.subi v176 c0_i32_139
  let c4_i32_140 : BitVec 32 := 4#32
  let v178 : BitVec 32 := Scalar.remsi v177 c4_i32_140
  let c256_i32_142 : BitVec 32 := 256#32
  let v181 : BitVec 32 := Scalar.muli v178 c256_i32_142
  let v198 : Index := Scalar.indexCast v181
  let c1 : Index := 1#32
  let c0_150 : Index := 0#32
  ![v198.toNat, 1, 0]
def k0_off4 (d0 : Dev nD) (c0_i32_139 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_138 : BitVec 32 := 4#32
  let v176 : BitVec 32 := Scalar.addi v2 c4_i32_138
  let v177 : BitVec 32 := Scalar.subi v176 c0_i32_139
  let c4_i32_140 : BitVec 32 := 4#32
  let v178 : BitVec 32 := Scalar.remsi v177 c4_i32_140
  let c256_i32_142 : BitVec 32 := 256#32
  let v181 : BitVec 32 := Scalar.muli v178 c256_i32_142
  let v213 : Index := Scalar.indexCast v181
  let c2 : Index := 2#32
  let c0_156 : Index := 0#32
  ![v213.toNat, 2, 0]
def k0_off5 (d0 : Dev nD) (c0_i32_139 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_138 : BitVec 32 := 4#32
  let v176 : BitVec 32 := Scalar.addi v2 c4_i32_138
  let v177 : BitVec 32 := Scalar.subi v176 c0_i32_139
  let c4_i32_140 : BitVec 32 := 4#32
  let v178 : BitVec 32 := Scalar.remsi v177 c4_i32_140
  let c256_i32_142 : BitVec 32 := 256#32
  let v181 : BitVec 32 := Scalar.muli v178 c256_i32_142
  let v228 : Index := Scalar.indexCast v181
  let c3 : Index := 3#32
  let c0_162 : Index := 0#32
  ![v228.toNat, 3, 0]
def k0_off6 (d0 : Dev nD) (c0_i32_139 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_138 : BitVec 32 := 4#32
  let v176 : BitVec 32 := Scalar.addi v2 c4_i32_138
  let v177 : BitVec 32 := Scalar.subi v176 c0_i32_139
  let c4_i32_140 : BitVec 32 := 4#32
  let v178 : BitVec 32 := Scalar.remsi v177 c4_i32_140
  let c256_i32_142 : BitVec 32 := 256#32
  let v181 : BitVec 32 := Scalar.muli v178 c256_i32_142
  let v243 : Index := Scalar.indexCast v181
  let c4 : Index := 4#32
  let c0_168 : Index := 0#32
  ![v243.toNat, 4, 0]
def k0_off7 (d0 : Dev nD) (c0_i32_139 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_138 : BitVec 32 := 4#32
  let v176 : BitVec 32 := Scalar.addi v2 c4_i32_138
  let v177 : BitVec 32 := Scalar.subi v176 c0_i32_139
  let c4_i32_140 : BitVec 32 := 4#32
  let v178 : BitVec 32 := Scalar.remsi v177 c4_i32_140
  let c256_i32_142 : BitVec 32 := 256#32
  let v181 : BitVec 32 := Scalar.muli v178 c256_i32_142
  let v258 : Index := Scalar.indexCast v181
  let c5 : Index := 5#32
  let c0_174 : Index := 0#32
  ![v258.toNat, 5, 0]
def k0_off8 (d0 : Dev nD) (c0_i32_139 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_138 : BitVec 32 := 4#32
  let v176 : BitVec 32 := Scalar.addi v2 c4_i32_138
  let v177 : BitVec 32 := Scalar.subi v176 c0_i32_139
  let c4_i32_140 : BitVec 32 := 4#32
  let v178 : BitVec 32 := Scalar.remsi v177 c4_i32_140
  let c256_i32_142 : BitVec 32 := 256#32
  let v181 : BitVec 32 := Scalar.muli v178 c256_i32_142
  let v273 : Index := Scalar.indexCast v181
  let c6 : Index := 6#32
  let c0_180 : Index := 0#32
  ![v273.toNat, 6, 0]
def k0_off9 (d0 : Dev nD) (c0_i32_139 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_138 : BitVec 32 := 4#32
  let v176 : BitVec 32 := Scalar.addi v2 c4_i32_138
  let v177 : BitVec 32 := Scalar.subi v176 c0_i32_139
  let c4_i32_140 : BitVec 32 := 4#32
  let v178 : BitVec 32 := Scalar.remsi v177 c4_i32_140
  let c256_i32_142 : BitVec 32 := 256#32
  let v181 : BitVec 32 := Scalar.muli v178 c256_i32_142
  let v288 : Index := Scalar.indexCast v181
  let c7 : Index := 7#32
  let c0_186 : Index := 0#32
  ![v288.toNat, 7, 0]
def k0_dev7 (d0 : Dev nD) : Nat :=
  let c0_i32_295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_282 : BitVec 32 := 4#32
  let v457 : BitVec 32 := Scalar.addi v2 c4_i32_282
  let c1_i32_283 : BitVec 32 := 1#32
  let v458 : BitVec 32 := Scalar.subi v457 c1_i32_283
  let c4_i32_284 : BitVec 32 := 4#32
  let c0_i32_285 : BitVec 32 := 0#32
  let v459 : BitVec 1 := Scalar.cmpi .eq c4_i32_284 c0_i32_285
  let c1_i32_286 : BitVec 32 := 1#32
  let v460 : BitVec 32 := Scalar.select v459 c1_i32_286 c4_i32_284
  let v461 : BitVec 32 := Scalar.remsi v458 v460
  let c0_i32_288 : BitVec 32 := 0#32
  let v463 : BitVec 1 := Scalar.cmpi .slt v461 c0_i32_288
  let c0_i32_289 : BitVec 32 := 0#32
  let v464 : BitVec 1 := Scalar.cmpi .slt v460 c0_i32_289
  let v465 : BitVec 1 := Scalar.xori v463 v464
  let c0_i32_287 : BitVec 32 := 0#32
  let v462 : BitVec 1 := Scalar.cmpi .ne v461 c0_i32_287
  let v466 : BitVec 1 := Scalar.andi v465 v462
  let v467 : BitVec 32 := Scalar.addi v461 v460
  let v468 : BitVec 32 := Scalar.select v466 v467 v461
  let c1_i32_294 : BitVec 32 := 1#32
  let v469 : BitVec 32 := Scalar.muli v468 c1_i32_294
  let v470 : BitVec 32 := Scalar.addi c0_i32_295 v469
  v470.toNat
def k0_dev8 (d0 : Dev nD) : Nat :=
  let c0_i32_397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_384 : BitVec 32 := 4#32
  let v627 : BitVec 32 := Scalar.addi v2 c4_i32_384
  let c2_i32_385 : BitVec 32 := 2#32
  let v628 : BitVec 32 := Scalar.subi v627 c2_i32_385
  let c4_i32_386 : BitVec 32 := 4#32
  let c0_i32_387 : BitVec 32 := 0#32
  let v629 : BitVec 1 := Scalar.cmpi .eq c4_i32_386 c0_i32_387
  let c1_i32_388 : BitVec 32 := 1#32
  let v630 : BitVec 32 := Scalar.select v629 c1_i32_388 c4_i32_386
  let v631 : BitVec 32 := Scalar.remsi v628 v630
  let c0_i32_390 : BitVec 32 := 0#32
  let v633 : BitVec 1 := Scalar.cmpi .slt v631 c0_i32_390
  let c0_i32_391 : BitVec 32 := 0#32
  let v634 : BitVec 1 := Scalar.cmpi .slt v630 c0_i32_391
  let v635 : BitVec 1 := Scalar.xori v633 v634
  let c0_i32_389 : BitVec 32 := 0#32
  let v632 : BitVec 1 := Scalar.cmpi .ne v631 c0_i32_389
  let v636 : BitVec 1 := Scalar.andi v635 v632
  let v637 : BitVec 32 := Scalar.addi v631 v630
  let v638 : BitVec 32 := Scalar.select v636 v637 v631
  let c1_i32_396 : BitVec 32 := 1#32
  let v639 : BitVec 32 := Scalar.muli v638 c1_i32_396
  let v640 : BitVec 32 := Scalar.addi c0_i32_397 v639
  v640.toNat
def k0_dev9 (d0 : Dev nD) : Nat :=
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_486 : BitVec 32 := 1#32
  let v798 : BitVec 32 := Scalar.addi v2 c1_i32_486
  let c4_i32_487 : BitVec 32 := 4#32
  let c0_i32_488 : BitVec 32 := 0#32
  let v799 : BitVec 1 := Scalar.cmpi .eq c4_i32_487 c0_i32_488
  let c1_i32_489 : BitVec 32 := 1#32
  let v800 : BitVec 32 := Scalar.select v799 c1_i32_489 c4_i32_487
  let v801 : BitVec 32 := Scalar.remsi v798 v800
  let c0_i32_491 : BitVec 32 := 0#32
  let v803 : BitVec 1 := Scalar.cmpi .slt v801 c0_i32_491
  let c0_i32_492 : BitVec 32 := 0#32
  let v804 : BitVec 1 := Scalar.cmpi .slt v800 c0_i32_492
  let v805 : BitVec 1 := Scalar.xori v803 v804
  let c0_i32_490 : BitVec 32 := 0#32
  let v802 : BitVec 1 := Scalar.cmpi .ne v801 c0_i32_490
  let v806 : BitVec 1 := Scalar.andi v805 v802
  let v807 : BitVec 32 := Scalar.addi v801 v800
  let v808 : BitVec 32 := Scalar.select v806 v807 v801
  let c1_i32_497 : BitVec 32 := 1#32
  let v809 : BitVec 32 := Scalar.muli v808 c1_i32_497
  let v810 : BitVec 32 := Scalar.addi c0_i32_498 v809
  v810.toNat
def k0_dev10 (d0 : Dev nD) : Nat :=
  let c0_i32_577 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_565 : BitVec 32 := 1#32
  let v948 : BitVec 32 := Scalar.addi v2 c1_i32_565
  let c4_i32_566 : BitVec 32 := 4#32
  let c0_i32_567 : BitVec 32 := 0#32
  let v949 : BitVec 1 := Scalar.cmpi .eq c4_i32_566 c0_i32_567
  let c1_i32_568 : BitVec 32 := 1#32
  let v950 : BitVec 32 := Scalar.select v949 c1_i32_568 c4_i32_566
  let v951 : BitVec 32 := Scalar.remsi v948 v950
  let c0_i32_570 : BitVec 32 := 0#32
  let v953 : BitVec 1 := Scalar.cmpi .slt v951 c0_i32_570
  let c0_i32_571 : BitVec 32 := 0#32
  let v954 : BitVec 1 := Scalar.cmpi .slt v950 c0_i32_571
  let v955 : BitVec 1 := Scalar.xori v953 v954
  let c0_i32_569 : BitVec 32 := 0#32
  let v952 : BitVec 1 := Scalar.cmpi .ne v951 c0_i32_569
  let v956 : BitVec 1 := Scalar.andi v955 v952
  let v957 : BitVec 32 := Scalar.addi v951 v950
  let v958 : BitVec 32 := Scalar.select v956 v957 v951
  let c1_i32_576 : BitVec 32 := 1#32
  let v959 : BitVec 32 := Scalar.muli v958 c1_i32_576
  let v960 : BitVec 32 := Scalar.addi c0_i32_577 v959
  v960.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S_ : Shape := ⟨0, ![]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S1024, .i32⟩
  | .hbm, ⟨8, _⟩ => ⟨S1024x1, .i32⟩
  | .hbm, ⟨9, _⟩ => ⟨S4096, .i32⟩
  | .hbm, ⟨10, _⟩ => ⟨S1x4096, .i32⟩
  | .hbm, ⟨11, _⟩ => ⟨S1024x4096, .i32⟩
  | .hbm, ⟨12, _⟩ => ⟨S1024x4096, .i32⟩
  | .hbm, ⟨13, _⟩ => ⟨S1024x4096, .i32⟩
  | .hbm, ⟨14, _⟩ => ⟨S1024x4096, .i32⟩
  | .hbm, ⟨15, _⟩ => ⟨S_, .i32⟩
  | .hbm, ⟨16, _⟩ => ⟨S1024x4096, .i32⟩
  | .hbm, ⟨17, _⟩ => ⟨S1024x4096, .i1⟩
  | .hbm, ⟨18, _⟩ => ⟨S1x32x1024x4096, .f32⟩
  | .hbm, ⟨19, _⟩ => ⟨S_, .f32⟩
  | .hbm, ⟨20, _⟩ => ⟨S1x32x1024x4096, .f32⟩
  | .hbm, ⟨21, _⟩ => ⟨S1x32x1024x4096, .f32⟩
  | .hbm, ⟨22, _⟩ => ⟨S1x1x1024x4096, .i1⟩
  | .hbm, ⟨23, _⟩ => ⟨S_, .f32⟩
  | .hbm, ⟨24, _⟩ => ⟨S_, .f32⟩
  | .hbm, ⟨25, _⟩ => ⟨S1x32x1024x4096, .i1⟩
  | .hbm, ⟨26, _⟩ => ⟨S1x32x1024x4096, .f32⟩
  | .hbm, ⟨27, _⟩ => ⟨S1x32x1024x4096, .f32⟩
  | .hbm, ⟨28, _⟩ => ⟨S_, .f32⟩
  | .hbm, ⟨29, _⟩ => ⟨S1x32x1024, .f32⟩
  | .hbm, ⟨30, _⟩ => ⟨S1x32x1024x1, .f32⟩
  | .hbm, ⟨31, _⟩ => ⟨S1x32x1024x4096, .f32⟩
  | .hbm, ⟨32, _⟩ => ⟨S1x32x1024x4096, .f32⟩
  | .hbm, ⟨33, _⟩ => ⟨S1x32x1024x4096, .f32⟩
  | .hbm, ⟨34, _⟩ => ⟨S_, .i1⟩
  | .hbm, ⟨35, _⟩ => ⟨S1024, .i1⟩
  | .hbm, ⟨36, _⟩ => ⟨S1x1x1024x1, .i1⟩
  | .hbm, ⟨37, _⟩ => ⟨S_, .f32⟩
  | .hbm, ⟨38, _⟩ => ⟨S1x32x1024, .f32⟩
  | .hbm, ⟨39, _⟩ => ⟨S1x32x1024x1, .f32⟩
  | .hbm, ⟨40, _⟩ => ⟨S_, .f32⟩
  | .hbm, ⟨41, _⟩ => ⟨S_, .f32⟩
  | .hbm, ⟨42, _⟩ => ⟨S1x32x1024x1, .i1⟩
  | .hbm, ⟨43, _⟩ => ⟨S1x32x1024x1, .f32⟩
  | .hbm, ⟨44, _⟩ => ⟨S1x32x1024x1, .f32⟩
  | .hbm, ⟨45, _⟩ => ⟨S1x32x1024x4096, .f32⟩
  | .hbm, ⟨46, _⟩ => ⟨S1x32x1024x4096, .f32⟩
  | .hbm, ⟨47, _⟩ => ⟨S1x1x1024x1, .i1⟩
  | .hbm, ⟨48, _⟩ => ⟨S_, .f32⟩
  | .hbm, ⟨49, _⟩ => ⟨S_, .f32⟩
  | .hbm, ⟨50, _⟩ => ⟨S1x32x1024x4096, .i1⟩
  | .hbm, ⟨51, _⟩ => ⟨S1x32x1024x4096, .f32⟩
  | .hbm, ⟨52, _⟩ => ⟨S1x32x1024x4096, .f32⟩
  | .hbm, ⟨53, _⟩ => ⟨S1x32x128x1024, .f32⟩
  | .hbm, ⟨54, _⟩ => ⟨S1x1024x32x128, .f32⟩
  | .hbm, ⟨55, _⟩ => ⟨S1x1024x4096, .f32⟩
  | .hbm, ⟨56, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]

def κ : String → Option EReal := fun
  | "mask" => some ⊥
  | _ => none
-- ==== Proof.Values.lean ====
/-
# What one device computes, as functions of what it holds

The kernel computes, for each of the four blocks of 256 rows, eight heads of attention over a window of 512 padded
keys and their projection. It is printed head by head with intermediate results named where the text is cut; here
it is said once: `head256` is one head over a block, `part256` the eight heads side by side times the rows of the
output projection, `head128`, `ctxTop`, `ctxBot` and `proj128` the same for half a block. `partOf`, `partTop` and
`partBot` are these functions of the buffers a device loads from, and `resultOf` is the block of the result it stores.
-/
module

public import proofs.«01_k».proof.Proof.Gen.KernelIdeal
public import proofs.«01_k».proof.Proof.Gen.KernelIdeal.Skeleton

@[expose] public section

noncomputable section

namespace Cert.Swa

open Cert.KernelIdeal Cert.KernelIdeal.Gen
open Idealize.ShloMosaic Idealize.ShloMosaic.TcCoe

variable {F : FTy → Type} [FloatOps F] [Named F]

/-! ## One head, eight heads, the projection -/

/-- The unnormalised weights of one head over 256 rows: the exponential of the products with the keys plus the bias. -/
def weights256 (b : FVec F S256x512 .f32) (q : FVec F S256x128 .f32) (k : Vec F S512x1x128 .f32) : FVec F S256x512 .f32 :=
  exp (addf (matmul dot_S256x128_S512x128_S256x512_1_1_0_0_n_n none q (shapeCast S512x128 k shapeCasts_S512x1x128_S512x128)
    (constant S256x512 .f32 0x00000000#32)) b)

/-- One head over 256 rows: the weights times the values, divided by the weights' row sums. -/
def head256 (b : FVec F S256x512 .f32) (q : FVec F S256x128 .f32) (k v : Vec F S512x1x128 .f32) : FVec F S256x128 .f32 :=
  divf (matmul dot_S256x512_S512x128_S256x128_1_0_0_1_n_n none (weights256 b q k) (shapeCast S512x128 v shapeCasts_S512x1x128_S512x128)
      (constant S256x128 .f32 0x00000000#32))
    (broadcastTo S256x128 (shapeCast S256x1 (multiReduction .add [1] S256 (weights256 b q k) 0x00000000#32 reduces_S256x512_S256 (.inl rfl) rfl)
      shapeCasts_S256_S256x1) broadcasts_S256x1_S256x128)

/-- Eight heads over 256 rows, each on its own 128 columns of `q`, side by side. -/
def ctx256 (b : FVec F S256x512 .f32) (q : FVec F S256x1024 .f32) (k v : Fin 8 → Vec F S512x1x128 .f32) : FVec F S256x1024 .f32 :=
  concatenate S256x1024 1
    [⟨S256x128, head256 b (extractStridedSlice S256x128 ![0, 0] q slices_S256x1024_o0_0_S256x128) (k 0) (v 0)⟩,
     ⟨S256x128, head256 b (extractStridedSlice S256x128 ![0, 128] q slices_S256x1024_o0_128_S256x128) (k 1) (v 1)⟩,
     ⟨S256x128, head256 b (extractStridedSlice S256x128 ![0, 256] q slices_S256x1024_o0_256_S256x128) (k 2) (v 2)⟩,
     ⟨S256x128, head256 b (extractStridedSlice S256x128 ![0, 384] q slices_S256x1024_o0_384_S256x128) (k 3) (v 3)⟩,
     ⟨S256x128, head256 b (extractStridedSlice S256x128 ![0, 512] q slices_S256x1024_o0_512_S256x128) (k 4) (v 4)⟩,
     ⟨S256x128, head256 b (extractStridedSlice S256x128 ![0, 640] q slices_S256x1024_o0_640_S256x128) (k 5) (v 5)⟩,
     ⟨S256x128, head256 b (extractStridedSlice S256x128 ![0, 768] q slices_S256x1024_o0_768_S256x128) (k 6) (v 6)⟩,
     ⟨S256x128, head256 b (extractStridedSlice S256x128 ![0, 896] q slices_S256x1024_o0_896_S256x128) (k 7) (v 7)⟩]
    concatenates_S256x128_S256x128_S256x128_S256x128_S256x128_S256x128_S256x128_S256x128_S256x1024_d1

/-- A block's partial result: the eight heads times the rows of the output projection, kept in bf16. -/
def part256 (b : FVec F S256x512 .f32) (q : FVec F S256x1024 .f32) (k v : Fin 8 → Vec F S512x1x128 .f32) (wo : Vec F S1024x1024 .f32) :
    FVec F S1x256x1024 .bf16 :=
  shapeCast S1x256x1024 (truncf .bf16 (matmul dot_S256x1024_S1024x1024_S256x1024_1_0_0_1_n_n none (ctx256 b q k v) wo
    (constant S256x1024 .f32 0x00000000#32)) bitsLt_bf16_f32) shapeCasts_S256x1024_S1x256x1024

/-- The unnormalised weights of one head over 128 rows. -/
def weights128 (b : FVec F S128x512 .f32) (q : FVec F S128x128 .f32) (k : Vec F S512x1x128 .f32) : FVec F S128x512 .f32 :=
  exp (addf (matmul dot_S128x128_S512x128_S128x512_1_1_0_0_n_n none q (shapeCast S512x128 k shapeCasts_S512x1x128_S512x128)
    (constant S128x512 .f32 0x00000000#32)) b)

/-- One head over 128 rows. -/
def head128 (b : FVec F S128x512 .f32) (q : FVec F S128x128 .f32) (k v : Vec F S512x1x128 .f32) : FVec F S128x128 .f32 :=
  divf (matmul dot_S128x512_S512x128_S128x128_1_0_0_1_n_n none (weights128 b q k) (shapeCast S512x128 v shapeCasts_S512x1x128_S512x128)
      (constant S128x128 .f32 0x00000000#32))
    (broadcastTo S128x128 (shapeCast S128x1 (multiReduction .add [1] S128 (weights128 b q k) 0x00000000#32 reduces_S128x512_S128 (.inl rfl) rfl)
      shapeCasts_S128_S128x1) broadcasts_S128x1_S128x128)

/-- Eight heads over the first 128 rows of a block. -/
def ctxTop (b : FVec F S128x512 .f32) (q : FVec F S256x1024 .f32) (k v : Fin 8 → Vec F S512x1x128 .f32) : FVec F S128x1024 .f32 :=
  concatenate S128x1024 1
    [⟨S128x128, head128 b (extractStridedSlice S128x128 ![0, 0] q slices_S256x1024_o0_0_S128x128) (k 0) (v 0)⟩,
     ⟨S128x128, head128 b (extractStridedSlice S128x128 ![0, 128] q slices_S256x1024_o0_128_S128x128) (k 1) (v 1)⟩,
     ⟨S128x128, head128 b (extractStridedSlice S128x128 ![0, 256] q slices_S256x1024_o0_256_S128x128) (k 2) (v 2)⟩,
     ⟨S128x128, head128 b (extractStridedSlice S128x128 ![0, 384] q slices_S256x1024_o0_384_S128x128) (k 3) (v 3)⟩,
     ⟨S128x128, head128 b (extractStridedSlice S128x128 ![0, 512] q slices_S256x1024_o0_512_S128x128) (k 4) (v 4)⟩,
     ⟨S128x128, head128 b (extractStridedSlice S128x128 ![0, 640] q slices_S256x1024_o0_640_S128x128) (k 5) (v 5)⟩,
     ⟨S128x128, head128 b (extractStridedSlice S128x128 ![0, 768] q slices_S256x1024_o0_768_S128x128) (k 6) (v 6)⟩,
     ⟨S128x128, head128 b (extractStridedSlice S128x128 ![0, 896] q slices_S256x1024_o0_896_S128x128) (k 7) (v 7)⟩]
    concatenates_S128x128_S128x128_S128x128_S128x128_S128x128_S128x128_S128x128_S128x128_S128x1024_d1

/-- Eight heads over the last 128 rows of a block. -/
def ctxBot (b : FVec F S128x512 .f32) (q : FVec F S256x1024 .f32) (k v : Fin 8 → Vec F S512x1x128 .f32) : FVec F S128x1024 .f32 :=
  concatenate S128x1024 1
    [⟨S128x128, head128 b (extractStridedSlice S128x128 ![128, 0] q slices_S256x1024_o128_0_S128x128) (k 0) (v 0)⟩,
     ⟨S128x128, head128 b (extractStridedSlice S128x128 ![128, 128] q slices_S256x1024_o128_128_S128x128) (k 1) (v 1)⟩,
     ⟨S128x128, head128 b (extractStridedSlice S128x128 ![128, 256] q slices_S256x1024_o128_256_S128x128) (k 2) (v 2)⟩,
     ⟨S128x128, head128 b (extractStridedSlice S128x128 ![128, 384] q slices_S256x1024_o128_384_S128x128) (k 3) (v 3)⟩,
     ⟨S128x128, head128 b (extractStridedSlice S128x128 ![128, 512] q slices_S256x1024_o128_512_S128x128) (k 4) (v 4)⟩,
     ⟨S128x128, head128 b (extractStridedSlice S128x128 ![128, 640] q slices_S256x1024_o128_640_S128x128) (k 5) (v 5)⟩,
     ⟨S128x128, head128 b (extractStridedSlice S128x128 ![128, 768] q slices_S256x1024_o128_768_S128x128) (k 6) (v 6)⟩,
     ⟨S128x128, head128 b (extractStridedSlice S128x128 ![128, 896] q slices_S256x1024_o128_896_S128x128) (k 7) (v 7)⟩]
    concatenates_S128x128_S128x128_S128x128_S128x128_S128x128_S128x128_S128x128_S128x128_S128x1024_d1

/-- Half a block's partial result from its eight heads. -/
def proj128 (ctx : FVec F S128x1024 .f32) (wo : Vec F S1024x1024 .f32) : FVec F S1x128x1024 .bf16 :=
  shapeCast S1x128x1024 (truncf .bf16 (matmul dot_S128x1024_S1024x1024_S128x1024_1_0_0_1_n_n none ctx wo
    (constant S128x1024 .f32 0x00000000#32)) bitsLt_bf16_f32) shapeCasts_S128x1024_S1x128x1024

/-! ## The bias of a block and the rectangles its windows are loaded from -/

/-- The device's place on the mesh as the kernel computes it from its number. -/
def place (s : Dev nD) : BitVec 32 := Scalar.remsi (Scalar.divsi (Dev.word s) 1#32) 4#32

/-- The bias of the block `r` places before the device's own: the padded one when that block is the first. -/
def biasAt (s : Dev nD) (r : BitVec 32) : FVec F S256x512 .f32 :=
  Scalar.select (Scalar.cmpi .eq (Scalar.remsi (Scalar.subi (Scalar.addi (place s) 4#32) r) 4#32) 0#32) (k0_pay5 (F := F)) k0_pay4

/-- Head `h`'s window of 512 padded keys (or values) for the block `r` places before the device's own. -/
def window (M : Memref sig .tc .vmem S1280x8x128 .f32) (s : Dev nD) (r : Fin 4) (f : M.view.ref.ty.Contents (Elt F)) (h : Fin 8) :
    Vec F S512x1x128 .f32 := match h with
  | 0 => M.view.readAt (Elt F) (Rect.unit (s := S1280x8x128) (k0_off2 s (BitVec.ofNat 32 r.val)) S512x1x128.size (k0_off2_inb s r)).toLoadRect f
  | 1 => M.view.readAt (Elt F) (Rect.unit (s := S1280x8x128) (k0_off3 s (BitVec.ofNat 32 r.val)) S512x1x128.size (k0_off3_inb s r)).toLoadRect f
  | 2 => M.view.readAt (Elt F) (Rect.unit (s := S1280x8x128) (k0_off4 s (BitVec.ofNat 32 r.val)) S512x1x128.size (k0_off4_inb s r)).toLoadRect f
  | 3 => M.view.readAt (Elt F) (Rect.unit (s := S1280x8x128) (k0_off5 s (BitVec.ofNat 32 r.val)) S512x1x128.size (k0_off5_inb s r)).toLoadRect f
  | 4 => M.view.readAt (Elt F) (Rect.unit (s := S1280x8x128) (k0_off6 s (BitVec.ofNat 32 r.val)) S512x1x128.size (k0_off6_inb s r)).toLoadRect f
  | 5 => M.view.readAt (Elt F) (Rect.unit (s := S1280x8x128) (k0_off7 s (BitVec.ofNat 32 r.val)) S512x1x128.size (k0_off7_inb s r)).toLoadRect f
  | 6 => M.view.readAt (Elt F) (Rect.unit (s := S1280x8x128) (k0_off8 s (BitVec.ofNat 32 r.val)) S512x1x128.size (k0_off8_inb s r)).toLoadRect f
  | 7 => M.view.readAt (Elt F) (Rect.unit (s := S1280x8x128) (k0_off9 s (BitVec.ofNat 32 r.val)) S512x1x128.size (k0_off9_inb s r)).toLoadRect f

/-! ## The buffers' contents -/

abbrev kM : Memref sig .tc .vmem S1280x8x128 .f32 := Memref.whole cc0_scratch2
abbrev vM : Memref sig .tc .vmem S1280x8x128 .f32 := Memref.whole cc0_scratch3

variable (m : (ℓ : Loc nD τ sig) → Buf (Elt F) ℓ)

/-- A device's block of `x`, as its 256 rows. -/
def xRows (s : Dev nD) : Vec F S256x1024 .f32 :=
  (((Memref.whole main_arg0 : Memref sig .tc .hbm S1x256x1024 .f32).slice (Rect.unit (s := S1x256x1024) ![0, 0, 0] S1x256x1024.size inb_S1x256x1024_S1x256x1024_0_0_0)
    (fun _ => rfl)).squeeze S256x1024 squeezes_S1x256x1024_S256x1024).view.read (Elt F) (m ((s : Thread nD τ).loc main_arg0))

/-- The rows as they are kept and sent, rounded to bf16. -/
def xSent (s : Dev nD) : FVec F S1x256x1024 .bf16 := k0_pay2 (xRows m s)

/-- A device's columns of the query projection, and its rows of the output projection. -/
def wqOf (s : Dev nD) : Vec F S1024x1024 .f32 := m ((s : Thread nD τ).loc main_arg1)
def woOf (s : Dev nD) : Vec F S1024x1024 .f32 := m ((s : Thread nD τ).loc main_arg4)

/-- A device's heads of the first 1152 keys, and of the first 1152 values. -/
def keysOf (s : Dev nD) : Vec F S1152x8x128 .f32 :=
  (((Memref.whole main_arg2 : Memref sig .tc .hbm S1x4096x32x128 .f32).slice (Rect.unit (s := S1x4096x32x128) (k0_off1 s) S1x1152x8x128.size (k0_off1_inb s))
    (fun _ => rfl)).squeeze S1152x8x128 squeezes_S1x1152x8x128_S1152x8x128).view.read (Elt F) (m ((s : Thread nD τ).loc main_arg2))
def valsOf (s : Dev nD) : Vec F S1152x8x128 .f32 :=
  (((Memref.whole main_arg3 : Memref sig .tc .hbm S1x4096x32x128 .f32).slice (Rect.unit (s := S1x4096x32x128) (k0_off1 s) S1x1152x8x128.size (k0_off1_inb s))
    (fun _ => rfl)).squeeze S1152x8x128 squeezes_S1x1152x8x128_S1152x8x128).view.read (Elt F) (m ((s : Thread nD τ).loc main_arg3))

/-- The key buffer: the keys from row 128 on, over whatever `f` it held before. -/
def keyBuf (s : Dev nD) (f : cc0_scratch2.ty.Contents (Elt F)) : cc0_scratch2.ty.Contents (Elt F) :=
  (kM.slice (Rect.unit (s := S1280x8x128) ![128, 0, 0] S1152x8x128.size inb_S1280x8x128_S1152x8x128_128_0_0) (fun _ => rfl)).view.write (Elt F) f
    (keysOf m s) Finset.univ

/-- The value buffer: zeros in rows 0 to 127 and the values from row 128 on. -/
def valBuf (s : Dev nD) (f : cc0_scratch3.ty.Contents (Elt F)) : cc0_scratch3.ty.Contents (Elt F) :=
  (vM.slice (Rect.unit (s := S1280x8x128) ![128, 0, 0] S1152x8x128.size inb_S1280x8x128_S1152x8x128_128_0_0) (fun _ => rfl)).view.write (Elt F)
    ((vM.access (Rect.unit (s := S1280x8x128) ![0, 0, 0] S128x8x128.size inb_S1280x8x128_S128x8x128_0_0_0) : View sig .tc _ _ _).write (Elt F) f
      (k0_pay1 (F := F)) Finset.univ)
    (valsOf m s) Finset.univ

/-- What a device's key and value buffers held at the start: the part of the key buffer below row 128 keeps it. -/
abbrev Pads (F : FTy → Type) : Type := cc0_scratch2.ty.Contents (Elt F) × cc0_scratch3.ty.Contents (Elt F)

/-- The query rows of a block, projected and scaled. -/
def queries (wq : Vec F S1024x1024 .f32) (x : FVec F S1x256x1024 .bf16) : FVec F S256x1024 .f32 := k0_pay6 x wq

/-- The device `k` places before `s` on the ring of four. -/
def back (k : Fin 4) (s : Dev nD) : Dev nD := ⟨(s.val + 4 - k.val) % 4, Nat.mod_lt _ (by decide)⟩
/-- The device `k` places after `s`. -/
def fwd (k : Fin 4) (s : Dev nD) : Dev nD := ⟨(s.val + k.val) % 4, Nat.mod_lt _ (by decide)⟩
theorem fwd_back (k : Fin 4) (s : Dev nD) : fwd k (back k s) = s := by revert k s; decide
theorem back_fwd (k : Fin 4) (s : Dev nD) : back k (fwd k s) = s := by revert k s; decide

/-- The partial result device `s` computes for the block `r` places before its own. -/
def partOf (s : Dev nD) (r : Fin 4) (p : Pads F) : FVec F S1x256x1024 .bf16 :=
  part256 (biasAt s (BitVec.ofNat 32 r.val)) (queries (wqOf m s) (xSent m (back r s)))
    (window kM s r (keyBuf m s p.1)) (window vM s r (valBuf m s p.2)) (woOf m s)

/-- The two halves of the partial result it computes for the block three places before its own. -/
def partTop (s : Dev nD) (p : Pads F) : FVec F S1x128x1024 .bf16 :=
  proj128 (ctxTop (extractStridedSlice S128x512 ![0, 0] (biasAt s 3#32) slices_S256x512_o0_0_S128x512) (queries (wqOf m s) (xSent m (back 3 s)))
    (window kM s 3 (keyBuf m s p.1)) (window vM s 3 (valBuf m s p.2))) (woOf m s)
def partBot (s : Dev nD) (p : Pads F) : FVec F S1x128x1024 .bf16 :=
  proj128 (ctxBot (extractStridedSlice S128x512 ![128, 0] (biasAt s 3#32) slices_S256x512_o128_0_S128x512) (queries (wqOf m s) (xSent m (back 3 s)))
    (window kM s 3 (keyBuf m s p.1)) (window vM s 3 (valBuf m s p.2))) (woOf m s)

/-- Two halves of 128 rows as one block of 256. -/
def stack128 (a b : FVec F S1x128x1024 .bf16) : FVec F S1x256x1024 .bf16 := fun i =>
  if h : (i 1).val < 128 then a (Fin.cons (i 0) (Fin.cons ⟨(i 1).val, h⟩ (Fin.cons (i 2) finZeroElim)))
  else b (Fin.cons (i 0) (Fin.cons ⟨(i 1).val - 128, by have : (i 1).val < 256 := (i 1).isLt; show _ < 128; omega⟩ (Fin.cons (i 2) finZeroElim)))

/-- A device's block of the result: its own partial result plus those of the devices one, two and three places after it. -/
def resultOf (c : Dev nD) (p : Fin 5 → Pads F) : FVec F S1x256x1024 .f32 :=
  k0_pay80 (k0_pay79 (k0_pay78 (partOf m c 0 (p 0))) (partOf m (fwd 1 c) 1 (p 1)) (partOf m (fwd 2 c) 2 (p 2)))
    (stack128 (partTop m (fwd 3 c) (p 3)) (partBot m (fwd 3 c) (p 4)))

end Cert.Swa

end
-- ==== Proof.Protocol.lean ====
/-
# The protocol between the four devices

Every device owns a barrier cell and fourteen cells for its remote copies. Before anything is sent, each device `p`
signals the three others; the signal to `c = p + e` hands over the two places of `p` that `c` will write to: slot
`4 - e` of `p`'s gathered rows, and the landing place of the partial result `c` sends back `e` places. A device that has
received all three signals therefore owns every place it is about to write to.

* send cells of the gather (6, 7, 8): give back one quarter of the device's own rows, which the three copies read at once;
* receive cells of the gather (9, 10, 11): slot `d` holds the rows of the device `d` places before;
* send cells of the scatter (12 to 15): give back the partial result that was read;
* receive cells of the scatter (16 to 19): the partial result of the device one, two, three places after (the last in two halves).

The partial results depend on what the sender's key and value buffers held at the start, so the scatter's payloads say
that there are such contents. The levels: barrier below gather below scatter.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.Swa

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  ((UEmb.inl : UEmb UB (UB × Counters)).trans ((UEmb.inr : UEmb (UB × Counters) UU).trans uEmb)).toEmb

/-! ## The slots of the three buffers -/

abbrev xM : Memref sig .tc .vmem S4x256x1024 .bf16 := Memref.whole cc0_scratch5
abbrev pM : Memref sig .tc .vmem S4x256x1024 .bf16 := Memref.whole cc0_scratch6
abbrev rM : Memref sig .tc .vmem S3x256x1024 .bf16 := Memref.whole cc0_scratch7

/-- The gathered rows' four slots. -/
abbrev xRect : Fin 4 → Rect S4x256x1024
  | 0 => Rect.unit (s := S4x256x1024) ![0, 0, 0] S1x256x1024.size inb_S4x256x1024_S1x256x1024_0_0_0
  | 1 => Rect.unit (s := S4x256x1024) ![1, 0, 0] S1x256x1024.size inb_S4x256x1024_S1x256x1024_1_0_0
  | 2 => Rect.unit (s := S4x256x1024) ![2, 0, 0] S1x256x1024.size inb_S4x256x1024_S1x256x1024_2_0_0
  | 3 => Rect.unit (s := S4x256x1024) ![3, 0, 0] S1x256x1024.size inb_S4x256x1024_S1x256x1024_3_0_0
/-- The partial results' five places: three slots, and the last slot in two halves. -/
abbrev pRect : Fin 5 → Rect S4x256x1024
  | 0 => Rect.unit (s := S4x256x1024) ![0, 0, 0] S1x256x1024.size inb_S4x256x1024_S1x256x1024_0_0_0
  | 1 => Rect.unit (s := S4x256x1024) ![1, 0, 0] S1x256x1024.size inb_S4x256x1024_S1x256x1024_1_0_0
  | 2 => Rect.unit (s := S4x256x1024) ![2, 0, 0] S1x256x1024.size inb_S4x256x1024_S1x256x1024_2_0_0
  | 3 => Rect.unit (s := S4x256x1024) ![3, 0, 0] S1x128x1024.size inb_S4x256x1024_S1x128x1024_3_0_0
  | 4 => Rect.unit (s := S4x256x1024) ![3, 128, 0] S1x128x1024.size inb_S4x256x1024_S1x128x1024_3_128_0
/-- The landing buffer's four places: two slots, and the last slot in two halves. -/
abbrev rRect : Fin 4 → Rect S3x256x1024
  | 0 => Rect.unit (s := S3x256x1024) ![0, 0, 0] S1x256x1024.size inb_S3x256x1024_S1x256x1024_0_0_0
  | 1 => Rect.unit (s := S3x256x1024) ![1, 0, 0] S1x256x1024.size inb_S3x256x1024_S1x256x1024_1_0_0
  | 2 => Rect.unit (s := S3x256x1024) ![2, 0, 0] S1x128x1024.size inb_S3x256x1024_S1x128x1024_2_0_0
  | 3 => Rect.unit (s := S3x256x1024) ![2, 128, 0] S1x128x1024.size inb_S3x256x1024_S1x128x1024_2_128_0

abbrev xs0 : Memref sig .tc .vmem S1x256x1024 .bf16 := xM.slice (Rect.unit (s := S4x256x1024) ![0, 0, 0] S1x256x1024.size inb_S4x256x1024_S1x256x1024_0_0_0) (fun _ => rfl)
abbrev xs1 : Memref sig .tc .vmem S1x256x1024 .bf16 := xM.slice (Rect.unit (s := S4x256x1024) ![1, 0, 0] S1x256x1024.size inb_S4x256x1024_S1x256x1024_1_0_0) (fun _ => rfl)
abbrev xs2 : Memref sig .tc .vmem S1x256x1024 .bf16 := xM.slice (Rect.unit (s := S4x256x1024) ![2, 0, 0] S1x256x1024.size inb_S4x256x1024_S1x256x1024_2_0_0) (fun _ => rfl)
abbrev xs3 : Memref sig .tc .vmem S1x256x1024 .bf16 := xM.slice (Rect.unit (s := S4x256x1024) ![3, 0, 0] S1x256x1024.size inb_S4x256x1024_S1x256x1024_3_0_0) (fun _ => rfl)
abbrev ps0 : Memref sig .tc .vmem S1x256x1024 .bf16 := pM.slice (Rect.unit (s := S4x256x1024) ![0, 0, 0] S1x256x1024.size inb_S4x256x1024_S1x256x1024_0_0_0) (fun _ => rfl)
abbrev ps1 : Memref sig .tc .vmem S1x256x1024 .bf16 := pM.slice (Rect.unit (s := S4x256x1024) ![1, 0, 0] S1x256x1024.size inb_S4x256x1024_S1x256x1024_1_0_0) (fun _ => rfl)
abbrev ps2 : Memref sig .tc .vmem S1x256x1024 .bf16 := pM.slice (Rect.unit (s := S4x256x1024) ![2, 0, 0] S1x256x1024.size inb_S4x256x1024_S1x256x1024_2_0_0) (fun _ => rfl)
abbrev ps3 : Memref sig .tc .vmem S1x128x1024 .bf16 := pM.slice (Rect.unit (s := S4x256x1024) ![3, 0, 0] S1x128x1024.size inb_S4x256x1024_S1x128x1024_3_0_0) (fun _ => rfl)
abbrev ps4 : Memref sig .tc .vmem S1x128x1024 .bf16 := pM.slice (Rect.unit (s := S4x256x1024) ![3, 128, 0] S1x128x1024.size inb_S4x256x1024_S1x128x1024_3_128_0) (fun _ => rfl)
abbrev rs0 : Memref sig .tc .vmem S1x256x1024 .bf16 := rM.slice (Rect.unit (s := S3x256x1024) ![0, 0, 0] S1x256x1024.size inb_S3x256x1024_S1x256x1024_0_0_0) (fun _ => rfl)
abbrev rs1 : Memref sig .tc .vmem S1x256x1024 .bf16 := rM.slice (Rect.unit (s := S3x256x1024) ![1, 0, 0] S1x256x1024.size inb_S3x256x1024_S1x256x1024_1_0_0) (fun _ => rfl)
abbrev rs2 : Memref sig .tc .vmem S1x128x1024 .bf16 := rM.slice (Rect.unit (s := S3x256x1024) ![2, 0, 0] S1x128x1024.size inb_S3x256x1024_S1x128x1024_2_0_0) (fun _ => rfl)
abbrev rs3 : Memref sig .tc .vmem S1x128x1024 .bf16 := rM.slice (Rect.unit (s := S3x256x1024) ![2, 128, 0] S1x128x1024.size inb_S3x256x1024_S1x128x1024_2_128_0) (fun _ => rfl)

/-- The amounts of a copy of 256 rows and of one of 128. -/
abbrev N : ℕ := xs0.view.dmaCredit
abbrev Nh : ℕ := rs2.view.dmaCredit
theorem N_pos : 0 < N := View.dmaCredit_pos _ (by decide)
theorem Nh_pos : 0 < Nh := View.dmaCredit_pos _ (by decide)

/-! ## The cells -/

abbrev bsem : SemLoc sig := .reg (SemArray.scalar (sig.barrier 0 rfl) : Sems sig S_).sem

/-- A device's cells: its barrier, then the semaphores of its remote copies. -/
abbrev ksem : Fin 15 → SemLoc sig
  | 0 => bsem
  | 1 => .dma ⟨6, by decide⟩
  | 2 => .dma ⟨7, by decide⟩
  | 3 => .dma ⟨8, by decide⟩
  | 4 => .dma ⟨9, by decide⟩
  | 5 => .dma ⟨10, by decide⟩
  | 6 => .dma ⟨11, by decide⟩
  | 7 => .dma ⟨12, by decide⟩
  | 8 => .dma ⟨13, by decide⟩
  | 9 => .dma ⟨14, by decide⟩
  | 10 => .dma ⟨15, by decide⟩
  | 11 => .dma ⟨16, by decide⟩
  | 12 => .dma ⟨17, by decide⟩
  | 13 => .dma ⟨18, by decide⟩
  | 14 => .dma ⟨19, by decide⟩
abbrev kcell (ci : Dev nD × Fin 15) : GSem nD τ sig := ((ci.1 : Thread nD τ), ksem ci.2)
/-- A device's cell by number. -/
abbrev cellAt (c : Dev nD) (i : Fin 15) : GSem nD τ sig := kcell (c, i)

theorem ksem_inj : Function.Injective ksem := by decide

/-! ## The schedule -/

/-- A place owned at any contents. -/
abbrev heldAny (c : Dev nD) {sh : Shape} (M : Memref sig .tc .vmem sh .bf16) : sProp 𝕄 :=
  ownsSat (c : Thread nD τ) M fullShare (fun _ => True)
/-- A place owned at a value. -/
abbrev heldAt (c : Dev nD) {sh : Shape} (M : Memref sig .tc .vmem sh .bf16) (q : PosShare TreeShare) (X : sh.Idx → Elt F .bf16) : sProp 𝕄 :=
  ownsSat (c : Thread nD τ) M q (fun Y => Y = X)

variable (m : (ℓ : Loc nD τ sig) → Buf (Elt F) ℓ)

/-- What the signal of duty `k` hands to device `c`: the places of the device `k + 1` before it that `c` writes to. -/
def barPay (c : Dev nD) : Fin 3 → sProp 𝕄
  | 0 => iprop(heldAny (F := F) (back 1 c) xs3 ∗ heldAny (F := F) (back 1 c) rs0)
  | 1 => iprop(heldAny (F := F) (back 2 c) xs2 ∗ heldAny (F := F) (back 2 c) rs1)
  | 2 => iprop(heldAny (F := F) (back 3 c) xs1 ∗ heldAny (F := F) (back 3 c) rs2 ∗ heldAny (F := F) (back 3 c) rs3)

/-- The four quarter shares of the device's own rows. -/
abbrev q0 : PosShare TreeShare := fullShare.left.left
abbrev q1 : PosShare TreeShare := fullShare.left.right
abbrev q2 : PosShare TreeShare := fullShare.right.left
abbrev q3 : PosShare TreeShare := fullShare.right.right

/-- What a finished copy brings on device `c`'s DMA semaphore number `q`. -/
def xferPay (c : Dev nD) (q : ℕ) : sProp 𝕄 :=
  match q with
  | 6 => heldAt c xs0 q1 (xSent m c)
  | 7 => heldAt c xs0 q2 (xSent m c)
  | 8 => heldAt c xs0 q3 (xSent m c)
  | 9 => heldAt c xs1 fullShare (xSent m (back 1 c))
  | 10 => heldAt c xs2 fullShare (xSent m (back 2 c))
  | 11 => heldAt c xs3 fullShare (xSent m (back 3 c))
  | 12 => heldAny c ps1
  | 13 => heldAny c ps2
  | 14 => heldAny c ps3
  | 15 => heldAny c ps4
  | 16 => ownsSat (c : Thread nD τ) rs0 fullShare (fun X => ∃ p, X = partOf m (fwd 1 c) 1 p)
  | 17 => ownsSat (c : Thread nD τ) rs1 fullShare (fun X => ∃ p, X = partOf m (fwd 2 c) 2 p)
  | 18 => ownsSat (c : Thread nD τ) rs2 fullShare (fun X => ∃ p, X = partTop m (fwd 3 c) p)
  | 19 => ownsSat (c : Thread nD τ) rs3 fullShare (fun X => ∃ p, X = partBot m (fwd 3 c) p)
  | _ => iprop(emp)

/-- The duties of a semaphore: three signals at the barrier, one landing at a remote copy's semaphore. -/
def dutiesOf : SemLoc sig → Finset (Fin 3)
  | .reg _ => Finset.univ
  | .dma q => if 6 ≤ q.val then {0} else ∅
/-- The amount of a duty. -/
def amountOf : SemLoc sig → ℕ
  | .reg _ => 1
  | .dma q => if q.val = 14 ∨ q.val = 15 ∨ 18 ≤ q.val then Nh else N
theorem amountOf_pos (s : SemLoc sig) : 0 < amountOf s := by
  cases s with
  | reg _ => exact Nat.one_pos
  | dma q => unfold amountOf; dsimp only; split; exacts [Nh_pos, N_pos]
def payOf (c : Dev nD) (s : SemLoc sig) (d : Fin 3) : sProp 𝕄 :=
  match s with
  | .reg _ => barPay c d
  | .dma q => xferPay m c q.val

def Rd : Rounds.Schedule (GSem nD τ sig) (Fin 3) 𝕄 where
  duties g r := if r = 0 ∧ g.1.2 = .tc then dutiesOf g.2 else ∅
  unitless _ := False
  amount g _ _ := amountOf g.2
  payload g _ d := payOf m g.1.1 g.2 d
  amount_pos g _ _ _ := amountOf_pos g.2

instance Rd_payload_storable (g : GSem nD τ sig) (r : ℕ) (d : Fin 3) :
    BI.Storable (upEmb : UEmb _ 𝕄) ((Rd (F := F) m).payload g r d) := by
  show BI.Storable upEmb (payOf m g.1.1 g.2 d)
  unfold payOf barPay xferPay
  (repeat' split) <;> infer_instance

theorem duties_bar (c : Dev nD) : (Rd (F := F) m).duties (cellAt c 0) 0 = Finset.univ := by
  show (if 0 = 0 ∧ (c : Thread nD τ).2 = .tc then dutiesOf (ksem 0) else ∅) = Finset.univ
  rw [if_pos ⟨rfl, rfl⟩]; rfl
theorem duties_xfer (c : Dev nD) (i : Fin 15) (hi : i ≠ 0) : (Rd (F := F) m).duties (cellAt c i) 0 = {0} := by
  show (if 0 = 0 ∧ (c : Thread nD τ).2 = .tc then dutiesOf (ksem i) else ∅) = {0}
  rw [if_pos ⟨rfl, rfl⟩]
  revert i; decide
theorem duties_later (g : GSem nD τ sig) : ∀ r, 1 ≤ r → (Rd (F := F) m).duties g r = ∅ :=
  fun r hr => if_neg fun h => by omega

theorem expect_bar (c : Dev nD) : (Rd (F := F) m).expect (cellAt c 0) 0 = 3 := by
  unfold Schedule.expect Schedule.amountOf
  rw [duties_bar]
  show (Finset.univ : Finset (Fin 3)).sum (fun _ => 1) = 3
  decide
theorem expect_xfer (c : Dev nD) (i : Fin 15) (hi : i ≠ 0) : (Rd (F := F) m).expect (cellAt c i) 0 = amountOf (ksem i) := by
  unfold Schedule.expect Schedule.amountOf; rw [duties_xfer m c i hi, Finset.sum_singleton]; rfl

theorem rest_bar (c : Dev nD) : bigSep ((Rd (F := F) m).duties (cellAt c 0) 0 \ ∅) (fun d => (Rd (F := F) m).payload (cellAt c 0) 0 d)
    = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons, bigSepL_singleton]
  rfl
theorem rest_xfer (c : Dev nD) (i : Fin 15) (hi : i ≠ 0) :
    bigSep ((Rd (F := F) m).duties (cellAt c i) 0 \ ∅) (fun d => (Rd (F := F) m).payload (cellAt c i) 0 d) = payOf m c (ksem i) 0 := by
  rw [Finset.sdiff_empty, duties_xfer m c i hi, bigSep_singleton]; rfl

/-! ## Debts and levels -/

/-- What a device owes: in the order in which it pays, the cells and the amounts. -/
def debts (c : Dev nD) : List (GSem nD τ sig × ℕ) :=
  [(cellAt (fwd 1 c) 0, 1), (cellAt (fwd 2 c) 0, 1), (cellAt (fwd 3 c) 0, 1),
   (cellAt (fwd 1 c) 4, N), (cellAt (fwd 2 c) 5, N), (cellAt (fwd 3 c) 6, N),
   (cellAt (back 1 c) 11, N), (cellAt (back 2 c) 12, N), (cellAt (back 3 c) 13, Nh), (cellAt (back 3 c) 14, Nh)]

/-- The debt of a list. -/
def owesOf : List (GSem nD τ sig × ℕ) → CellTallies nD τ sig Unit
  | [] => 0
  | p :: l => owesOf l + tallyAt p.1 () p.2

theorem owesOf_pos {l : List (GSem nD τ sig × ℕ)} {g : GSem nD τ sig} {u : Unit} (h : 0 < owesOf l g u) : ∃ p ∈ l, p.1 = g := by
  induction l with
  | nil => exact absurd h (Nat.lt_irrefl 0)
  | cons p l ih =>
    rw [owesOf, Pi.add_apply, Finsupp.add_apply, tallyAt_apply] at h
    by_cases hg : p.1 = g
    · exact ⟨p, List.mem_cons_self, hg⟩
    · rw [if_neg (fun h' => hg h'.1.symm), Nat.add_zero] at h
      obtain ⟨p', hp', e⟩ := ih h
      exact ⟨p', List.mem_cons_of_mem _ hp', e⟩

/-- What is still owed after the first `k` payments. -/
def owed (c : Dev nD) (k : ℕ) : CellTallies nD τ sig Unit := owesOf ((debts c).drop k)

def L (g : GSem nD τ sig) : Finset Unit := if g.1.2 = .tc then {()} else ∅
def lvOf : SemLoc sig → ℕ
  | .reg _ => 1
  | .dma q => if 16 ≤ q.val then 3 else if 9 ≤ q.val ∧ q.val ≤ 11 then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem mayWait_list (c : Dev nD) (sm : SemLoc sig) (l : List (GSem nD τ sig × ℕ))
    (hl : ∀ g ∈ l.map Prod.fst, g.1.2 = .tc ∧ lvOf sm < lvOf g.2) :
    (levAts L lv : sProp 𝕄) ⊢ MayWait (c : Thread nD τ) sm () (owesOf l) :=
  MayOwe.of_cut (L := L) (lev := lv) (lvOf sm) (fun p hp => by rw [Finset.mem_singleton.mp hp, L_tc]; exact Finset.mem_singleton_self _)
    (fun g u hg => by
      obtain ⟨p, hp, rfl⟩ := owesOf_pos hg
      rw [L, if_pos (hl _ (List.mem_map_of_mem hp)).1]; exact Finset.mem_singleton_self _)
    (fun p hp => by rw [Finset.mem_singleton.mp hp]; exact le_rfl)
    (fun g u hg => by
      obtain ⟨p, hp, rfl⟩ := owesOf_pos hg
      exact (hl _ (List.mem_map_of_mem hp)).2)

/-- A device may wait on a semaphore below everything that is left to pay. -/
theorem mayWait (c : Dev nD) (sm : SemLoc sig) (k : ℕ) (h : ∀ g ∈ ((debts c).map Prod.fst).drop k, g.1.2 = .tc ∧ lvOf sm < lvOf g.2) :
    (levAts L lv : sProp 𝕄) ⊢ MayWait (c : Thread nD τ) sm () (owed c k) :=
  mayWait_list c sm _ (by rw [List.map_drop]; exact h)

/-- The levels and processors of the cells a device owes to. -/
theorem debts_tc (c : Dev nD) : ∀ g ∈ (debts c).map Prod.fst, g.1.2 = .tc := by
  unfold debts; simp
theorem debts_levels (c : Dev nD) : ((debts c).map Prod.fst).map (fun g => lvOf g.2) = [1, 1, 1, 2, 2, 2, 3, 3, 3, 3] := rfl

theorem mayWait' (c : Dev nD) (sm : SemLoc sig) (k : ℕ) (h : ∀ n ∈ ([1, 1, 1, 2, 2, 2, 3, 3, 3, 3] : List ℕ).drop k, lvOf sm < n) :
    (levAts L lv : sProp 𝕄) ⊢ MayWait (c : Thread nD τ) sm () (owed c k) :=
  mayWait c sm k fun g hg => ⟨debts_tc c g (List.mem_of_mem_drop hg), h _ (by
    rw [← debts_levels c, ← List.map_drop]; exact List.mem_map_of_mem hg)⟩

/-- A device may wait for its own copies whatever it still owes. -/
theorem mayWait_own (c : Dev nD) (s : DmaSem sig) (k : ℕ) (h : lvOf (.dma s) = 0) :
    (levAts L lv : sProp 𝕄) ⊢ MayWait (c : Thread nD τ) (.dma s) () (owed c k) :=
  mayWait' c _ k fun n hn => by
    have hm := List.mem_of_mem_drop hn
    simp only [List.mem_cons, List.not_mem_nil, or_false] at hm
    omega

/-! ## The devices named by the kernel -/

theorem dev1_eq (c : Dev nD) : (⟨k0_dev1 c, k0_dev1_lt c⟩ : Dev nD) = fwd 1 c := by revert c; decide +kernel
theorem dev2_eq (c : Dev nD) : (⟨k0_dev2 c, k0_dev2_lt c⟩ : Dev nD) = fwd 2 c := by revert c; decide +kernel
theorem dev3_eq (c : Dev nD) : (⟨k0_dev3 c, k0_dev3_lt c⟩ : Dev nD) = fwd 3 c := by revert c; decide +kernel
theorem dev4_eq (c : Dev nD) : (⟨k0_dev4 c, k0_dev4_lt c⟩ : Dev nD) = fwd 1 c := by revert c; decide +kernel
theorem dev5_eq (c : Dev nD) : (⟨k0_dev5 c, k0_dev5_lt c⟩ : Dev nD) = fwd 2 c := by revert c; decide +kernel
theorem dev6_eq (c : Dev nD) : (⟨k0_dev6 c, k0_dev6_lt c⟩ : Dev nD) = fwd 3 c := by revert c; decide +kernel
theorem dev7_eq (c : Dev nD) : (⟨k0_dev7 c, k0_dev7_lt c⟩ : Dev nD) = back 1 c := by revert c; decide +kernel
theorem dev8_eq (c : Dev nD) : (⟨k0_dev8 c, k0_dev8_lt c⟩ : Dev nD) = back 2 c := by revert c; decide +kernel
theorem dev9_eq (c : Dev nD) : (⟨k0_dev9 c, k0_dev9_lt c⟩ : Dev nD) = back 3 c := by revert c; decide +kernel
theorem dev10_eq (c : Dev nD) : (⟨k0_dev10 c, k0_dev10_lt c⟩ : Dev nD) = back 3 c := by revert c; decide +kernel

end Cert.Swa

end
-- ==== Proof.Steps.lean ====
/-
# One step of the kernel at a time

The rules for the statements of the kernel that touch slots or cells: loading and storing a slot of one of the three
buffers, signalling another device, sending a slot to another device, and waiting on one of the device's own cells.
Each is stated at the cells of the protocol, from the cells' invariants held for all devices at once.
-/
module

public import proofs.«01_k».proof.Proof.Protocol

@[expose] public section

noncomputable section

namespace Cert.Swa

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (m : (ℓ : Loc nD τ sig) → Buf (Elt F) ℓ) (K : Dev nD × Fin 15 → ℕ)

/-- The invariants of all cells of all devices, that each is in its first round, and the levels. -/
def world : sProp 𝕄 :=
  iprop((bigSep Finset.univ fun ci : Dev nD × Fin 15 => cellInv ER (Rd m) (K ci) (kcell ci))
    ∗ (bigSep Finset.univ fun ci : Dev nD × Fin 15 => reached ER (kcell ci) 0) ∗ levAts L lv)

instance world_persistent : BI.Persistent (world m K) := by unfold world; infer_instance

/-- One of a family held together. -/
theorem bigSep_one {I : Type} [DecidableEq I] [Fintype I] (Φ : I → sProp 𝕄) (i : I) : bigSep Finset.univ Φ ⊢ Φ i := by
  rw [bigSep_erase (Finset.mem_univ i)]
  show iprop(Φ i ∗ bigSep (Finset.univ.erase i) Φ) ⊢ Φ i
  iintro ⟨H, -⟩
  iexact H

theorem world_inv (c : Dev nD) (i : Fin 15) : world m K ⊢ cellInv ER (Rd m) (K (c, i)) (cellAt c i) := by
  unfold world
  iintro ⟨#H, -, -⟩
  iapply (bigSep_one (fun ci : Dev nD × Fin 15 => cellInv ER (Rd m) (K ci) (kcell ci)) (c, i))
  iexact H
theorem world_reached (c : Dev nD) (i : Fin 15) : world m K ⊢ reached ER (cellAt c i) 0 := by
  unfold world
  iintro ⟨-, #H, -⟩
  iapply (bigSep_one (fun ci : Dev nD × Fin 15 => (reached ER (kcell ci) 0 : sProp 𝕄)) (c, i))
  iexact H
theorem world_lev : world m K ⊢ (levAts L lv : sProp 𝕄) := by
  unfold world
  iintro ⟨-, -, #H⟩
  iexact H

section Slots

variable (c : Dev nD) {α : Type} {sh : Shape} {e : EltTy}
  {M : Memref sig .tc .vmem sh e} {r : Rect sh} (hr : ∀ a, r.stride a = 1)

/-- Loading a slot held at contents that meet `Φ`: the run goes on with such contents. -/
theorem wp_load_slot {Q : α → sProp 𝕄} {hl : M.view.LoadsAt r.toLoadRect} {k : (r.shape.Idx → Elt F e) → Prog (TpuEff nD τ sig (Elt F) Λ₀ .tc) α}
    {q : PosShare TreeShare} {Φ : (r.shape.Idx → Elt F e) → Prop} :
    (ownsSat (c : Thread nD τ) (M.slice r hr) q Φ : sProp 𝕄)
      ⊢ iprop((∀ X, ⌜Φ X⌝ -∗ ownsSat (c : Thread nD τ) (M.slice r hr) q (fun Y => Y = X) -∗ wp frame (wpE (defs₀ (F := F)) 𝒱₀ (c : Thread nD τ) none) Set.univ (k X) Q)
        -∗ wp frame (wpE (defs₀ (F := F)) 𝒱₀ (c : Thread nD τ) none) Set.univ (.op (.load M r.toLoadRect hl) k) Q) := by
  unfold ownsSat
  iintro ⟨%f, %hf, H⟩ Hk
  iapply (wp_load_rect (c := (c : Thread nD τ)) (m := M) (r := r) 𝒱₀ none Set.univ (q := q) (f := f) (Finset.Subset.refl _)) $$ [H]
  · iexact H
  iintro H
  iapply Hk $$ %((M.access r).read (Elt F) f) %hf [H]
  iexists f; isplitr
  · ipureintro; rfl
  iexact H

/-- Storing over a slot held at any contents. -/
theorem wp_store_slot {Q : α → sProp 𝕄} {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} {Φ : (r.shape.Idx → Elt F e) → Prop} :
    (ownsSat (c : Thread nD τ) (M.slice r hr) fullShare Φ : sProp 𝕄)
      ⊢ iprop((ownsSat (c : Thread nD τ) (M.slice r hr) fullShare (fun Y => Y = w) -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  unfold ownsSat
  iintro ⟨%f, %hf, H⟩ Hk
  iapply (wp_store (c := (c : Thread nD τ)) (m := M) (r := r) 𝒱₀ none Set.univ (S := (M.access r).set) (f := f) (Finset.Subset.refl _)) $$ [H]
  · iexact H
  iintro H
  iapply Hk
  iexists _; isplitr
  pick_goal 2
  · iexact H
  ipureintro
  exact View.read_write_univ _ _

end Slots

/-- A squeezed memref's elements are the memref's. -/
theorem pts_squeeze (c : Dev nD) {sh s' : Shape} (M : Memref sig .tc .vmem sh .bf16) (h : sh.Squeezes s') (q : PosShare TreeShare) (f : M.view.ty.Contents (Elt F)) :
    (((M.squeeze s' h).view.loc (c : Thread nD τ) ↦[(M.squeeze s' h).view.set]{q} f) : sProp 𝕄) = (M.view.loc (c : Thread nD τ) ↦[M.view.set]{q} f) := by
  show (M.view.loc (c : Thread nD τ) ↦[(M.view.reshape s' h.numel_eq).set]{q} f) = _
  rw [View.set_reshape]

/-- A program that goes on from a value. -/
theorem wp_ret_bind (c : Dev nD) {α β : Type} {Q : β → sProp 𝕄} {a : α} {k : α → Prog (TpuEff nD τ sig (Elt F) Λ₀ .tc) β} :
    (wp frame (wpE (defs₀ (F := F)) 𝒱₀ (c : Thread nD τ) none) Set.univ (k a) Q : sProp 𝕄)
      ⊢ wp frame (wpE (defs₀ (F := F)) 𝒱₀ (c : Thread nD τ) none) Set.univ ((Prog.ret a).bind k) Q := .rfl

/-- A share in four quarters. -/
theorem quarters (c : Dev nD) {sh : Shape} (M : Memref sig .tc .vmem sh .bf16) (Φ : (sh.Idx → Elt F .bf16) → Prop) :
    (ownsSat (c : Thread nD τ) M fullShare Φ : sProp 𝕄)
      ⊣⊢ iprop((ownsSat (c : Thread nD τ) M q0 Φ ∗ ownsSat (c : Thread nD τ) M q1 Φ) ∗ (ownsSat (c : Thread nD τ) M q2 Φ ∗ ownsSat (c : Thread nD τ) M q3 Φ)) :=
  (ownsSat_halves (c : Thread nD τ) M fullShare Φ).trans
    (sep_congr (ownsSat_halves (c : Thread nD τ) M fullShare.left Φ) (ownsSat_halves (c : Thread nD τ) M fullShare.right Φ))

section Cells

variable (c : Dev nD) {α : Type}

/-- What a device owes after `j` payments, whatever it has waited for. -/
abbrev owesAny (c : Dev nD) (j : ℕ) : sProp 𝕄 := iprop(∃ W, owes (c : Thread nD τ) (owed c j) W)

/-- Signalling the barrier of device `t`, with the duty's payload. -/
theorem wp_signal_bar {Q : α → sProp 𝕄} {c'' : Dev nD} (t : Dev nD) (hc : c'' = t) {sem : Sem sig} (hs : (.reg sem : SemLoc sig) = bsem) (d : Fin 3) (j : ℕ)
    (hO : owed c j = owed c (j + 1) + tallyAt (cellAt t 0) () 1) {k : PUnit → Prog (TpuEff nD τ sig (Elt F) Λ₀ .tc) α} :
    iprop(world m K ∗ owesAny c j ∗ dutyTok ER (cellAt t 0) 0 d ∗ barPay (F := F) t d)
      ⊢ iprop((owesAny c (j + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (c'' : Thread nD τ) sem 1) k) Q) := by
  subst hc
  obtain rfl : sem = (SemArray.scalar (sig.barrier 0 rfl) : Sems sig S_).sem := by injection hs
  unfold owesAny
  iintro ⟨#HW, ⟨%W, HO⟩, Htok, Hpay⟩ Hk
  iapply (Rounds.wp_signal 𝒱₀ ER (Rd m) (c : Thread nD τ) none (dst := (c'' : Thread nD τ)) (κ := K (c'', 0)) (r := 0) (d := d) (k' := 1)
    (by rw [show ((c'' : Thread nD τ), (bsem : SemLoc sig)) = cellAt c'' 0 from rfl, duties_bar]; exact Finset.mem_univ d) rfl () (O₀ := owed c j) (owed c (j + 1)) hO (W := W)) $$ [HO Htok Hpay]
  · isplitr; · iapply (world_inv m K c'' 0); iexact HW
    isplitl [HO]; · iexact HO
    isplitl [Htok]; · iexact Htok
    isplitl [Hpay]
    · iapply (Entails.of_eq (show barPay (F := F) c'' d = (Rd m).payload (cellAt c'' 0) 0 d from rfl)); iexact Hpay
    iapply (world_reached m K c'' 0); iexact HW
  iintro HO
  iapply Hk
  iexists W; iexact HO

/-- Waiting for everything that is due on one of the device's cells: its payloads come, and the cell is closed at zero. -/
theorem wp_wait_cell {Q : α → sProp 𝕄} {w : TpuEff nD τ sig (Elt F) Λ₀ .tc PUnit} (i : Fin 15) (n : ℕ)
    (hw : ∀ P : PUnit → sProp 𝕄, wpE (defs₀ (F := F)) 𝒱₀ (c : Thread nD τ) none Set.univ w P = waitSpec (c : Thread nD τ) Set.univ (ksem i) n P)
    (hn : (Rd (F := F) m).expect (cellAt c i) 0 = n) (j : ℕ) (hj : ∀ n ∈ ([1, 1, 1, 2, 2, 2, 3, 3, 3, 3] : List ℕ).drop j, lvOf (ksem i) < n)
    (P : sProp 𝕄) (hP : bigSep ((Rd (F := F) m).duties (cellAt c i) 0 \ ∅) (fun d => (Rd (F := F) m).payload (cellAt c i) 0 d) = P)
    {k : PUnit → Prog (TpuEff nD τ sig (Elt F) Λ₀ .tc) α} :
    iprop(world m K ∗ cred (tallyAt (cellAt c i) () n) ∗ owesAny c j ∗ atPos ER (cellAt c i) 0 ∅ 0)
      ⊢ iprop((iprop(owesAny c j ∗ semVal (cellAt c i) 0 ∗ P) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  subst hP
  unfold owesAny
  iintro ⟨#HW, Hc, ⟨%W, HO⟩, Hat⟩ Hk
  iapply (Rounds.wp_wait_rest_token 𝒱₀ ER (Rd m) (c : Thread nD τ) none (κ := K (c, i)) hw (Set.mem_univ _) () (O := owed c j) (W := W) (R := 0) (m := 0) (T := ∅)
    ((Nat.zero_add n).trans hn.symm)) $$ [Hc HO Hat]
  · isplitr; · iapply (world_inv m K c i); iexact HW
    isplitl [Hc]; · iexact Hc
    isplitl [HO]; · iexact HO
    isplitr; · iapply ((world_lev m K).trans (mayWait' c (ksem i) j hj)); iexact HW
    iexact Hat
  iintro ⟨HO, Hat, -, Hpay⟩
  ihave #HI := (world_inv m K c i) $$ HW
  imod (cell_close ER (Rd m) (Set.mem_univ (K (c, i))) (fun h => h) (R := 0 + 1) (duties_later m (cellAt c i))) $$ [Hat] with Hz
  · isplitr; · iexact HI
    iexact Hat
  iapply Hk
  isplitl [HO]; · iexists _; iexact HO
  isplitl [Hz]; · iexact Hz
  iexact Hpay

/-- Sending a slot to another device: the source goes to the device's own cell `i₁`, the destination, holding what the
    source held, to cell `i₂` of device `t`. -/
theorem wp_send_slot {Q : α → sProp 𝕄} {c'' : Dev nD} (t : Dev nD) (hc : c'' = t) (i₁ i₂ : Fin 15) (hi₁ : i₁ ≠ 0) (hi₂ : i₂ ≠ 0) (n : ℕ) (j : ℕ)
    (hO : owed c j = owed c (j + 1) + tallyAt (cellAt t i₂) () n)
    {sh s' : Shape} {S D : Memref sig .tc .vmem sh .bf16} {hS hD : sh.Squeezes s'} {sS sR : DmaSem sig}
    (h₁ : (.dma sS : SemLoc sig) = ksem i₁) (h₂ : (.dma sR : SemLoc sig) = ksem i₂)
    {hsc : (D.squeeze s' hD).view.ref.isScScratch = false}
    {hsrc : (S.squeeze s' hS).view.WordExact} {hdst : (D.squeeze s' hD).view.WordExact}
    {hsem : DmaTarget.Typed .vmem (.dma sR) (.remote (c'' : Thread nD τ) (D.squeeze s' hD) (.dma sS) hsc)}
    (hN : (D.squeeze s' hD).view.dmaCredit = n) (ha₁ : amountOf (ksem i₁) = n) (ha₂ : amountOf (ksem i₂) = n)
    (q : PosShare TreeShare) (X : sh.Idx → Elt F .bf16) (Φ : (sh.Idx → Elt F .bf16) → Prop)
    (hp₁ : (ownsSat (c : Thread nD τ) S q (fun Y => Y = X) : sProp 𝕄) ⊢ payOf m c (ksem i₁) 0)
    (hp₂ : (ownsSat (t : Thread nD τ) D fullShare (fun Y => Y = X) : sProp 𝕄) ⊢ payOf m t (ksem i₂) 0)
    {k : PUnit → Prog (TpuEff nD τ sig (Elt F) Λ₀ .tc) α} :
    iprop(world m K ∗ owesAny c j ∗ dutyTok ER (cellAt c i₁) 0 0 ∗ dutyTok ER (cellAt t i₂) 0 0
        ∗ ownsSat (c : Thread nD τ) S q (fun Y => Y = X) ∗ ownsSat (t : Thread nD τ) D fullShare Φ)
      ⊢ iprop((iprop(owesAny c (j + 1) ∗ cred (tallyAt (cellAt c i₁) () n)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (S.squeeze s' hS) (.remote (c'' : Thread nD τ) (D.squeeze s' hD) (.dma sS) hsc) (.dma sR) hsrc hdst hsem) k) Q) := by
  subst hc
  have e₁ : ((c : Thread nD τ), (SemLoc.dma sS : SemLoc sig)) = cellAt c i₁ := by rw [h₁]
  have e₂ : ((c'' : Thread nD τ), (SemLoc.dma sR : SemLoc sig)) = cellAt c'' i₂ := by rw [h₂]
  unfold owesAny
  rw [show (ownsSat (c : Thread nD τ) S q (fun Y => Y = X) : sProp 𝕄)
    = iprop(∃ f, ⌜S.view.read (Elt F) f = X⌝ ∗ (S.view.loc (c : Thread nD τ) ↦[S.view.set]{q} f)) from rfl,
   show (ownsSat (c'' : Thread nD τ) D fullShare Φ : sProp 𝕄)
    = iprop(∃ f, ⌜Φ (D.view.read (Elt F) f)⌝ ∗ (D.view.loc (c'' : Thread nD τ) ↦[D.view.set]{fullShare} f)) from rfl]
  iintro ⟨#HW, ⟨%W, HO⟩, Ht₁, Ht₂, ⟨%fs, %hfs, Hs⟩, ⟨%fd, -, Hd⟩⟩ Hk
  iapply (Rounds.wp_send_pointsTo 𝒱₀ ER (Rd m) (c : Thread nD τ) none (c' := (c'' : Thread nD τ)) (src := S.squeeze s' hS) (dst := D.squeeze s' hD) (hsrc := hsrc) (hdst := hdst) (hsem := hsem)
    (κ₁ := K (c, i₁)) (κ₂ := K (c'', i₂)) (r₁ := 0) (r₂ := 0) (d₁ := 0) (d₂ := 0) (q := q) (fs := fs) (fd := fd)
    (by rw [e₁, duties_xfer m c i₁ hi₁]; exact Finset.mem_singleton_self _) (by rw [e₂, duties_xfer m c'' i₂ hi₂]; exact Finset.mem_singleton_self _)
    () () n hN (by rw [e₁]; exact ha₁) (by rw [e₂]; exact ha₂) (O₀ := owed c j) (owed c (j + 1)) (by rw [e₂]; exact hO) (W := W)
    (by
      rw [e₁]; refine BIBase.Entails.trans ?_ hp₁
      unfold ownsSat
      iintro H; iexists fs; isplitr
      · ipureintro; exact hfs
      iapply (Entails.of_eq (pts_squeeze c S hS q fs))
      iexact H)
    (by
      rw [e₂]; refine BIBase.Entails.trans ?_ hp₂
      unfold ownsSat
      iintro H
      iexists ((D.squeeze s' hD).view.write (Elt F) fd ((S.squeeze s' hS).view.read (Elt F) fs) Finset.univ)
      isplitr
      · ipureintro
        have h := View.read_write_univ (Val := Elt F) (v := (D.squeeze s' hD).view) fd ((S.squeeze s' hS).view.read (Elt F) fs)
        funext x
        have hx := congrFun h ((Shape.reshapeEquiv hD.numel_eq).symm x)
        rw [← hfs]
        simpa [View.read, Memref.view_squeeze, View.reshape] using hx
      iapply (Entails.of_eq (pts_squeeze c'' D hD fullShare _))
      iexact H)) $$ [HO Ht₁ Ht₂ Hs Hd]
  · rw [e₁, e₂]
    isplitr; · iapply (world_inv m K c i₁); iexact HW
    isplitr; · iapply (world_inv m K c'' i₂); iexact HW
    isplitl [Hs]
    · iapply (Entails.of_eq (pts_squeeze c S hS q fs).symm)
      iexact Hs
    isplitl [Hd]
    · iapply (Entails.of_eq (pts_squeeze c'' D hD fullShare fd).symm)
      iexact Hd
    isplitl [HO]; · iexact HO
    isplitl [Ht₁]; · iexact Ht₁
    isplitr; · iapply (world_reached m K c i₁); iexact HW
    isplitl [Ht₂]; · iexact Ht₂
    iapply (world_reached m K c'' i₂); iexact HW
  rw [e₁]
  iintro ⟨Hc, HO⟩
  iapply Hk
  isplitl [HO]; · iexists W; iexact HO
  iexact Hc

end Cells

end Cert.Swa

end
-- ==== Proof.Moves.lean ====
/-
# The seven remote copies

Each remote copy of the kernel as a step of the run: the three that spread a device's rows, and the four that carry
partial results to the devices whose rows they are for.
-/
module

public import proofs.«01_k».proof.Proof.Steps

@[expose] public section

noncomputable section

namespace Cert.Swa

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 15 → ℕ)

/-- The devices before, as devices after. -/
theorem back_1 (c : Dev nD) : back 1 c = fwd 3 c := by revert c; decide
theorem back_2 (c : Dev nD) : back 2 c = fwd 2 c := by revert c; decide
theorem back_3 (c : Dev nD) : back 3 c = fwd 1 c := by revert c; decide

/-- The amounts of the cells. -/
theorem amount_N (q : DmaSem sig) (h : ¬ (q.val = 14 ∨ q.val = 15 ∨ 18 ≤ q.val)) : amountOf (.dma q) = N := if_neg h
theorem amount_Nh (q : DmaSem sig) (h : q.val = 14 ∨ q.val = 15 ∨ 18 ≤ q.val) : amountOf (.dma q) = Nh := if_pos h

/-- One payment off the debt. -/
theorem owed_step (c : Dev nD) (j : ℕ) (g : GSem nD τ sig) (n : ℕ) (h : (debts c).drop j = (g, n) :: (debts c).drop (j + 1)) :
    owed c j = owed c (j + 1) + tallyAt g () n := by
  unfold owed; rw [h]; rfl

section

variable (c : Dev nD) {α : Type} {k : PUnit → Prog (TpuEff nD τ sig (Elt F) Λ₀ .tc) α}

/-- A slot of 256 rows as the copies name it, and half a slot. -/
abbrev rows (M : Memref sig .tc .vmem S1x256x1024 .bf16) : Memref sig .tc .vmem S256x1024 .bf16 := M.squeeze S256x1024 squeezes_S1x256x1024_S256x1024
abbrev half (M : Memref sig .tc .vmem S1x128x1024 .bf16) : Memref sig .tc .vmem S128x1024 .bf16 := M.squeeze S128x1024 squeezes_S1x128x1024_S128x1024

/-- The amounts of the copies. -/
theorem credit_xs0 : (rows xs0).view.dmaCredit = N := rfl
theorem credit_ps1 : (rows ps1).view.dmaCredit = N := rfl
theorem credit_ps2 : (rows ps2).view.dmaCredit = N := rfl
theorem credit_ps3 : (half ps3).view.dmaCredit = Nh := rfl
theorem credit_ps4 : (half ps4).view.dmaCredit = Nh := rfl
theorem credit_xs1 : (rows xs1).view.dmaCredit = N := rfl
theorem credit_xs2 : (rows xs2).view.dmaCredit = N := rfl
theorem credit_xs3 : (rows xs3).view.dmaCredit = N := rfl
theorem credit_rs0 : (rows rs0).view.dmaCredit = N := rfl
theorem credit_rs1 : (rows rs1).view.dmaCredit = N := rfl
theorem credit_rs2 : (half rs2).view.dmaCredit = Nh := rfl
theorem credit_rs3 : (half rs3).view.dmaCredit = Nh := rfl

/-- A device's rows to the device one place after it. -/
theorem wp_spread1 {Q : α → sProp 𝕄} {hsc : (rows xs1).view.ref.isScScratch = false}
    {hsrc : (rows xs0).view.WordExact} {hdst : (rows xs1).view.WordExact}
    {hsem : DmaTarget.Typed .vmem (.dma ((SemArray.slice cc0_scratch10 (Rect.unit ![0] S1.size inb_S3_S1_0)).squeeze S_ squeezes_S1_S_).sem) (.remote ((⟨k0_dev4 c, k0_dev4_lt c⟩ : Dev nD) : Thread nD τ) (rows xs1) (.dma ((SemArray.slice cc0_scratch9 (Rect.unit ![0] S1.size inb_S3_S1_0)).squeeze S_ squeezes_S1_S_).sem) hsc)} :
    iprop(world m K ∗ owesAny c 3 ∗ dutyTok ER (cellAt c 1) 0 0 ∗ dutyTok ER (cellAt (fwd 1 c) 4) 0 0
        ∗ heldAt c xs0 q1 (xSent m c) ∗ heldAny (fwd 1 c) xs1)
      ⊢ iprop((iprop(owesAny c 4 ∗ cred (tallyAt (cellAt c 1) () N)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (rows xs0) (.remote ((⟨k0_dev4 c, k0_dev4_lt c⟩ : Dev nD) : Thread nD τ) (rows xs1) (.dma ((SemArray.slice cc0_scratch9 (Rect.unit ![0] S1.size inb_S3_S1_0)).squeeze S_ squeezes_S1_S_).sem) hsc) (.dma ((SemArray.slice cc0_scratch10 (Rect.unit ![0] S1.size inb_S3_S1_0)).squeeze S_ squeezes_S1_S_).sem) hsrc hdst hsem) k) Q) :=
  wp_send_slot m K c (fwd 1 c) (dev4_eq c) 1 4 (by decide) (by decide) N 3 (owed_step c 3 _ _ rfl) (S := xs0) (D := xs1) (sS := ((SemArray.slice cc0_scratch9 (Rect.unit ![0] S1.size inb_S3_S1_0)).squeeze S_ squeezes_S1_S_).sem) (sR := ((SemArray.slice cc0_scratch10 (Rect.unit ![0] S1.size inb_S3_S1_0)).squeeze S_ squeezes_S1_S_).sem)
    rfl rfl credit_xs1 (amount_N _ (by decide)) (amount_N _ (by decide)) q1 (xSent m c) _ BIBase.Entails.rfl
    (Entails.of_eq (by show _ = heldAt (fwd 1 c) xs1 fullShare (xSent m (back 1 (fwd 1 c))); rw [back_fwd]))

/-- A device's rows to the device two places after it. -/
theorem wp_spread2 {Q : α → sProp 𝕄} {hsc : (rows xs2).view.ref.isScScratch = false}
    {hsrc : (rows xs0).view.WordExact} {hdst : (rows xs2).view.WordExact}
    {hsem : DmaTarget.Typed .vmem (.dma ((SemArray.slice cc0_scratch10 (Rect.unit ![1] S1.size inb_S3_S1_1)).squeeze S_ squeezes_S1_S_).sem) (.remote ((⟨k0_dev5 c, k0_dev5_lt c⟩ : Dev nD) : Thread nD τ) (rows xs2) (.dma ((SemArray.slice cc0_scratch9 (Rect.unit ![1] S1.size inb_S3_S1_1)).squeeze S_ squeezes_S1_S_).sem) hsc)} :
    iprop(world m K ∗ owesAny c 4 ∗ dutyTok ER (cellAt c 2) 0 0 ∗ dutyTok ER (cellAt (fwd 2 c) 5) 0 0
        ∗ heldAt c xs0 q2 (xSent m c) ∗ heldAny (fwd 2 c) xs2)
      ⊢ iprop((iprop(owesAny c 5 ∗ cred (tallyAt (cellAt c 2) () N)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (rows xs0) (.remote ((⟨k0_dev5 c, k0_dev5_lt c⟩ : Dev nD) : Thread nD τ) (rows xs2) (.dma ((SemArray.slice cc0_scratch9 (Rect.unit ![1] S1.size inb_S3_S1_1)).squeeze S_ squeezes_S1_S_).sem) hsc) (.dma ((SemArray.slice cc0_scratch10 (Rect.unit ![1] S1.size inb_S3_S1_1)).squeeze S_ squeezes_S1_S_).sem) hsrc hdst hsem) k) Q) :=
  wp_send_slot m K c (fwd 2 c) (dev5_eq c) 2 5 (by decide) (by decide) N 4 (owed_step c 4 _ _ rfl) (S := xs0) (D := xs2) (sS := ((SemArray.slice cc0_scratch9 (Rect.unit ![1] S1.size inb_S3_S1_1)).squeeze S_ squeezes_S1_S_).sem) (sR := ((SemArray.slice cc0_scratch10 (Rect.unit ![1] S1.size inb_S3_S1_1)).squeeze S_ squeezes_S1_S_).sem)
    rfl rfl credit_xs2 (amount_N _ (by decide)) (amount_N _ (by decide)) q2 (xSent m c) _ BIBase.Entails.rfl
    (Entails.of_eq (by show _ = heldAt (fwd 2 c) xs2 fullShare (xSent m (back 2 (fwd 2 c))); rw [back_fwd]))

/-- A device's rows to the device three places after it. -/
theorem wp_spread3 {Q : α → sProp 𝕄} {hsc : (rows xs3).view.ref.isScScratch = false}
    {hsrc : (rows xs0).view.WordExact} {hdst : (rows xs3).view.WordExact}
    {hsem : DmaTarget.Typed .vmem (.dma ((SemArray.slice cc0_scratch10 (Rect.unit ![2] S1.size inb_S3_S1_2)).squeeze S_ squeezes_S1_S_).sem) (.remote ((⟨k0_dev6 c, k0_dev6_lt c⟩ : Dev nD) : Thread nD τ) (rows xs3) (.dma ((SemArray.slice cc0_scratch9 (Rect.unit ![2] S1.size inb_S3_S1_2)).squeeze S_ squeezes_S1_S_).sem) hsc)} :
    iprop(world m K ∗ owesAny c 5 ∗ dutyTok ER (cellAt c 3) 0 0 ∗ dutyTok ER (cellAt (fwd 3 c) 6) 0 0
        ∗ heldAt c xs0 q3 (xSent m c) ∗ heldAny (fwd 3 c) xs3)
      ⊢ iprop((iprop(owesAny c 6 ∗ cred (tallyAt (cellAt c 3) () N)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (rows xs0) (.remote ((⟨k0_dev6 c, k0_dev6_lt c⟩ : Dev nD) : Thread nD τ) (rows xs3) (.dma ((SemArray.slice cc0_scratch9 (Rect.unit ![2] S1.size inb_S3_S1_2)).squeeze S_ squeezes_S1_S_).sem) hsc) (.dma ((SemArray.slice cc0_scratch10 (Rect.unit ![2] S1.size inb_S3_S1_2)).squeeze S_ squeezes_S1_S_).sem) hsrc hdst hsem) k) Q) :=
  wp_send_slot m K c (fwd 3 c) (dev6_eq c) 3 6 (by decide) (by decide) N 5 (owed_step c 5 _ _ rfl) (S := xs0) (D := xs3) (sS := ((SemArray.slice cc0_scratch9 (Rect.unit ![2] S1.size inb_S3_S1_2)).squeeze S_ squeezes_S1_S_).sem) (sR := ((SemArray.slice cc0_scratch10 (Rect.unit ![2] S1.size inb_S3_S1_2)).squeeze S_ squeezes_S1_S_).sem)
    rfl rfl credit_xs3 (amount_N _ (by decide)) (amount_N _ (by decide)) q3 (xSent m c) _ BIBase.Entails.rfl
    (Entails.of_eq (by show _ = heldAt (fwd 3 c) xs3 fullShare (xSent m (back 3 (fwd 3 c))); rw [back_fwd]))

/-- The partial result for the device before. -/
theorem wp_return1 {Q : α → sProp 𝕄} (p : Pads F) {hsc : (rows rs0).view.ref.isScScratch = false}
    {hsrc : (rows ps1).view.WordExact} {hdst : (rows rs0).view.WordExact}
    {hsem : DmaTarget.Typed .vmem (.dma ((SemArray.slice cc0_scratch12 (Rect.unit ![0] S1.size inb_S4_S1_0)).squeeze S_ squeezes_S1_S_).sem) (.remote ((⟨k0_dev7 c, k0_dev7_lt c⟩ : Dev nD) : Thread nD τ) (rows rs0) (.dma ((SemArray.slice cc0_scratch11 (Rect.unit ![0] S1.size inb_S4_S1_0)).squeeze S_ squeezes_S1_S_).sem) hsc)} :
    iprop(world m K ∗ owesAny c 6 ∗ dutyTok ER (cellAt c 7) 0 0 ∗ dutyTok ER (cellAt (back 1 c) 11) 0 0
        ∗ heldAt c ps1 fullShare (partOf m c 1 p) ∗ heldAny (back 1 c) rs0)
      ⊢ iprop((iprop(owesAny c 7 ∗ cred (tallyAt (cellAt c 7) () N)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (rows ps1) (.remote ((⟨k0_dev7 c, k0_dev7_lt c⟩ : Dev nD) : Thread nD τ) (rows rs0) (.dma ((SemArray.slice cc0_scratch11 (Rect.unit ![0] S1.size inb_S4_S1_0)).squeeze S_ squeezes_S1_S_).sem) hsc) (.dma ((SemArray.slice cc0_scratch12 (Rect.unit ![0] S1.size inb_S4_S1_0)).squeeze S_ squeezes_S1_S_).sem) hsrc hdst hsem) k) Q) :=
  wp_send_slot m K c (back 1 c) (dev7_eq c) 7 11 (by decide) (by decide) N 6 (owed_step c 6 _ _ rfl) (S := ps1) (D := rs0) (sS := ((SemArray.slice cc0_scratch11 (Rect.unit ![0] S1.size inb_S4_S1_0)).squeeze S_ squeezes_S1_S_).sem) (sR := ((SemArray.slice cc0_scratch12 (Rect.unit ![0] S1.size inb_S4_S1_0)).squeeze S_ squeezes_S1_S_).sem)
    rfl rfl credit_rs0 (amount_N _ (by decide)) (amount_N _ (by decide)) fullShare (partOf m c 1 p) _ (ownsSat_mono _ _ _ fun _ _ => trivial)
    (by
      show (_ : sProp 𝕄) ⊢ ownsSat (back 1 c : Thread nD τ) rs0 fullShare (fun X : _ → Elt F .bf16 => ∃ p', X = partOf m (fwd 1 (back 1 c)) 1 p')
      rw [fwd_back]
      exact ownsSat_mono _ _ _ fun X h => ⟨p, h⟩)

/-- The partial result for the device two places before. -/
theorem wp_return2 {Q : α → sProp 𝕄} (p : Pads F) {hsc : (rows rs1).view.ref.isScScratch = false}
    {hsrc : (rows ps2).view.WordExact} {hdst : (rows rs1).view.WordExact}
    {hsem : DmaTarget.Typed .vmem (.dma ((SemArray.slice cc0_scratch12 (Rect.unit ![1] S1.size inb_S4_S1_1)).squeeze S_ squeezes_S1_S_).sem) (.remote ((⟨k0_dev8 c, k0_dev8_lt c⟩ : Dev nD) : Thread nD τ) (rows rs1) (.dma ((SemArray.slice cc0_scratch11 (Rect.unit ![1] S1.size inb_S4_S1_1)).squeeze S_ squeezes_S1_S_).sem) hsc)} :
    iprop(world m K ∗ owesAny c 7 ∗ dutyTok ER (cellAt c 8) 0 0 ∗ dutyTok ER (cellAt (back 2 c) 12) 0 0
        ∗ heldAt c ps2 fullShare (partOf m c 2 p) ∗ heldAny (back 2 c) rs1)
      ⊢ iprop((iprop(owesAny c 8 ∗ cred (tallyAt (cellAt c 8) () N)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (rows ps2) (.remote ((⟨k0_dev8 c, k0_dev8_lt c⟩ : Dev nD) : Thread nD τ) (rows rs1) (.dma ((SemArray.slice cc0_scratch11 (Rect.unit ![1] S1.size inb_S4_S1_1)).squeeze S_ squeezes_S1_S_).sem) hsc) (.dma ((SemArray.slice cc0_scratch12 (Rect.unit ![1] S1.size inb_S4_S1_1)).squeeze S_ squeezes_S1_S_).sem) hsrc hdst hsem) k) Q) :=
  wp_send_slot m K c (back 2 c) (dev8_eq c) 8 12 (by decide) (by decide) N 7 (owed_step c 7 _ _ rfl) (S := ps2) (D := rs1) (sS := ((SemArray.slice cc0_scratch11 (Rect.unit ![1] S1.size inb_S4_S1_1)).squeeze S_ squeezes_S1_S_).sem) (sR := ((SemArray.slice cc0_scratch12 (Rect.unit ![1] S1.size inb_S4_S1_1)).squeeze S_ squeezes_S1_S_).sem)
    rfl rfl credit_rs1 (amount_N _ (by decide)) (amount_N _ (by decide)) fullShare (partOf m c 2 p) _ (ownsSat_mono _ _ _ fun _ _ => trivial)
    (by
      show (_ : sProp 𝕄) ⊢ ownsSat (back 2 c : Thread nD τ) rs1 fullShare (fun X : _ → Elt F .bf16 => ∃ p', X = partOf m (fwd 2 (back 2 c)) 2 p')
      rw [fwd_back]
      exact ownsSat_mono _ _ _ fun X h => ⟨p, h⟩)

/-- The first half of the partial result for the device three places before. -/
theorem wp_return3 {Q : α → sProp 𝕄} (p : Pads F) {hsc : (half rs2).view.ref.isScScratch = false}
    {hsrc : (half ps3).view.WordExact} {hdst : (half rs2).view.WordExact}
    {hsem : DmaTarget.Typed .vmem (.dma ((SemArray.slice cc0_scratch12 (Rect.unit ![2] S1.size inb_S4_S1_2)).squeeze S_ squeezes_S1_S_).sem) (.remote ((⟨k0_dev9 c, k0_dev9_lt c⟩ : Dev nD) : Thread nD τ) (half rs2) (.dma ((SemArray.slice cc0_scratch11 (Rect.unit ![2] S1.size inb_S4_S1_2)).squeeze S_ squeezes_S1_S_).sem) hsc)} :
    iprop(world m K ∗ owesAny c 8 ∗ dutyTok ER (cellAt c 9) 0 0 ∗ dutyTok ER (cellAt (back 3 c) 13) 0 0
        ∗ heldAt c ps3 fullShare (partTop m c p) ∗ heldAny (back 3 c) rs2)
      ⊢ iprop((iprop(owesAny c 9 ∗ cred (tallyAt (cellAt c 9) () Nh)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (half ps3) (.remote ((⟨k0_dev9 c, k0_dev9_lt c⟩ : Dev nD) : Thread nD τ) (half rs2) (.dma ((SemArray.slice cc0_scratch11 (Rect.unit ![2] S1.size inb_S4_S1_2)).squeeze S_ squeezes_S1_S_).sem) hsc) (.dma ((SemArray.slice cc0_scratch12 (Rect.unit ![2] S1.size inb_S4_S1_2)).squeeze S_ squeezes_S1_S_).sem) hsrc hdst hsem) k) Q) :=
  wp_send_slot m K c (back 3 c) (dev9_eq c) 9 13 (by decide) (by decide) Nh 8 (owed_step c 8 _ _ rfl) (S := ps3) (D := rs2) (sS := ((SemArray.slice cc0_scratch11 (Rect.unit ![2] S1.size inb_S4_S1_2)).squeeze S_ squeezes_S1_S_).sem) (sR := ((SemArray.slice cc0_scratch12 (Rect.unit ![2] S1.size inb_S4_S1_2)).squeeze S_ squeezes_S1_S_).sem)
    rfl rfl credit_rs2 (amount_Nh _ (by decide)) (amount_Nh _ (by decide)) fullShare (partTop m c p) _ (ownsSat_mono _ _ _ fun _ _ => trivial)
    (by
      show (_ : sProp 𝕄) ⊢ ownsSat (back 3 c : Thread nD τ) rs2 fullShare (fun X : _ → Elt F .bf16 => ∃ p', X = partTop m (fwd 3 (back 3 c)) p')
      rw [fwd_back]
      exact ownsSat_mono _ _ _ fun X h => ⟨p, h⟩)

/-- Its second half. -/
theorem wp_return4 {Q : α → sProp 𝕄} (p : Pads F) {hsc : (half rs3).view.ref.isScScratch = false}
    {hsrc : (half ps4).view.WordExact} {hdst : (half rs3).view.WordExact}
    {hsem : DmaTarget.Typed .vmem (.dma ((SemArray.slice cc0_scratch12 (Rect.unit ![3] S1.size inb_S4_S1_3)).squeeze S_ squeezes_S1_S_).sem) (.remote ((⟨k0_dev10 c, k0_dev10_lt c⟩ : Dev nD) : Thread nD τ) (half rs3) (.dma ((SemArray.slice cc0_scratch11 (Rect.unit ![3] S1.size inb_S4_S1_3)).squeeze S_ squeezes_S1_S_).sem) hsc)} :
    iprop(world m K ∗ owesAny c 9 ∗ dutyTok ER (cellAt c 10) 0 0 ∗ dutyTok ER (cellAt (back 3 c) 14) 0 0
        ∗ heldAt c ps4 fullShare (partBot m c p) ∗ heldAny (back 3 c) rs3)
      ⊢ iprop((iprop(owesAny c 10 ∗ cred (tallyAt (cellAt c 10) () Nh)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (half ps4) (.remote ((⟨k0_dev10 c, k0_dev10_lt c⟩ : Dev nD) : Thread nD τ) (half rs3) (.dma ((SemArray.slice cc0_scratch11 (Rect.unit ![3] S1.size inb_S4_S1_3)).squeeze S_ squeezes_S1_S_).sem) hsc) (.dma ((SemArray.slice cc0_scratch12 (Rect.unit ![3] S1.size inb_S4_S1_3)).squeeze S_ squeezes_S1_S_).sem) hsrc hdst hsem) k) Q) :=
  wp_send_slot m K c (back 3 c) (dev10_eq c) 10 14 (by decide) (by decide) Nh 9 (owed_step c 9 _ _ rfl) (S := ps4) (D := rs3) (sS := ((SemArray.slice cc0_scratch11 (Rect.unit ![3] S1.size inb_S4_S1_3)).squeeze S_ squeezes_S1_S_).sem) (sR := ((SemArray.slice cc0_scratch12 (Rect.unit ![3] S1.size inb_S4_S1_3)).squeeze S_ squeezes_S1_S_).sem)
    rfl rfl credit_rs3 (amount_Nh _ (by decide)) (amount_Nh _ (by decide)) fullShare (partBot m c p) _ (ownsSat_mono _ _ _ fun _ _ => trivial)
    (by
      show (_ : sProp 𝕄) ⊢ ownsSat (back 3 c : Thread nD τ) rs3 fullShare (fun X : _ → Elt F .bf16 => ∃ p', X = partBot m (fwd 3 (back 3 c)) p')
      rw [fwd_back]
      exact ownsSat_mono _ _ _ fun X h => ⟨p, h⟩)

/-- Waiting for a remote copy on one of the device's cells. -/
theorem wp_wait_slot {Q : α → sProp 𝕄} (i : Fin 15) (hi : i ≠ 0) (n : ℕ) (j : ℕ)
    (hj : ∀ n ∈ ([1, 1, 1, 2, 2, 2, 3, 3, 3, 3] : List ℕ).drop j, lvOf (ksem i) < n)
    {sp' : Space} {s s' : Shape} {sem : DmaSem sig} {src : Memref sig .tc sp' s' .bf16} {dst : Memref sig .tc .vmem s .bf16}
    {hsrc : src.view.WordExact} {hdst : dst.view.WordExact}
    (hs : (.dma sem : SemLoc sig) = ksem i) (hd : dst.view.dmaCredit = n) (hn : amountOf (ksem i) = n)
    (P : sProp 𝕄) (hP : payOf m c (ksem i) 0 = P) :
    iprop(world m K ∗ cred (tallyAt (cellAt c i) () n) ∗ owesAny c j ∗ atPos ER (cellAt c i) 0 ∅ 0)
      ⊢ iprop((iprop(owesAny c j ∗ semVal (cellAt c i) 0 ∗ P) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  subst hd
  exact wp_wait_cell m K c i _ (fun P' => by rw [← hs]; exact wpE_waitDma2_eq 𝒱₀ (c : Thread nD τ) none Set.univ P') ((expect_xfer m c i hi).trans hn) j hj P
    ((rest_xfer m c i hi).trans hP)

end

end Cert.Swa

end
-- ==== Proof.Slots.lean ====
/-
# The places of the three shared buffers

The gathered rows' buffer is its four slots, the partial results' buffer is three slots and two halves, and so is the
landing buffer with two slots: a buffer owned whole is its places owned, and places owned are the buffer owned. Before
the last load the two halves of the landing buffer's third slot become one slot of 256 rows.
-/
module

public import proofs.«01_k».proof.Proof.Protocol

@[expose] public section

noncomputable section

namespace Cert.Swa

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The landing buffer's three slots. -/
abbrev sRect : Fin 3 → Rect S3x256x1024
  | 0 => Rect.unit (s := S3x256x1024) ![0, 0, 0] S1x256x1024.size inb_S3x256x1024_S1x256x1024_0_0_0
  | 1 => Rect.unit (s := S3x256x1024) ![1, 0, 0] S1x256x1024.size inb_S3x256x1024_S1x256x1024_1_0_0
  | 2 => Rect.unit (s := S3x256x1024) ![2, 0, 0] S1x256x1024.size inb_S3x256x1024_S1x256x1024_2_0_0
abbrev rsF : Memref sig .tc .vmem S1x256x1024 .bf16 := rM.slice (Rect.unit (s := S3x256x1024) ![2, 0, 0] S1x256x1024.size inb_S3x256x1024_S1x256x1024_2_0_0) (fun _ => rfl)

theorem xRect_stride (t : Fin 4) (a) : (xRect t).stride a = 1 := by fin_cases t <;> rfl
theorem pRect_stride (t : Fin 5) (a) : (pRect t).stride a = 1 := by fin_cases t <;> rfl
theorem rRect_stride (t : Fin 4) (a) : (rRect t).stride a = 1 := by fin_cases t <;> rfl
theorem sRect_stride (t : Fin 3) (a) : (sRect t).stride a = 1 := by fin_cases t <;> rfl

theorem xRect_disj (t t' : Fin 4) (h : t ≠ t') : Disjoint (xRect t).set (xRect t').set := by
  rw [Finset.disjoint_left]; intro i hi hi'
  fin_cases t <;> fin_cases t' <;> first
    | exact h rfl
    | (have h0 := Rect.mem_set_unit.mp hi 0; have h1 := Rect.mem_set_unit.mp hi' 0
       simp at h0 h1; omega)
theorem sRect_disj (t t' : Fin 3) (h : t ≠ t') : Disjoint (sRect t).set (sRect t').set := by
  rw [Finset.disjoint_left]; intro i hi hi'
  fin_cases t <;> fin_cases t' <;> first
    | exact h rfl
    | (have h0 := Rect.mem_set_unit.mp hi 0; have h1 := Rect.mem_set_unit.mp hi' 0
       simp at h0 h1; omega)
theorem pRect_disj (t t' : Fin 5) (h : t ≠ t') : Disjoint (pRect t).set (pRect t').set := by
  rw [Finset.disjoint_left]; intro i hi hi'
  fin_cases t <;> fin_cases t' <;> first
    | exact h rfl
    | (have h0 := Rect.mem_set_unit.mp hi 0; have h1 := Rect.mem_set_unit.mp hi' 0
       have h2 := Rect.mem_set_unit.mp hi 1; have h3 := Rect.mem_set_unit.mp hi' 1
       simp at h0 h1 h2 h3; omega)
theorem rRect_disj (t t' : Fin 4) (h : t ≠ t') : Disjoint (rRect t).set (rRect t').set := by
  rw [Finset.disjoint_left]; intro i hi hi'
  fin_cases t <;> fin_cases t' <;> first
    | exact h rfl
    | (have h0 := Rect.mem_set_unit.mp hi 0; have h1 := Rect.mem_set_unit.mp hi' 0
       have h2 := Rect.mem_set_unit.mp hi 1; have h3 := Rect.mem_set_unit.mp hi' 1
       simp at h0 h1 h2 h3; omega)

theorem xRect_cov : (Finset.univ : Finset (Fin 4)).biUnion (fun t => (xRect t).set) = Finset.univ := by
  ext i
  simp only [Finset.mem_biUnion, Finset.mem_univ, true_and, iff_true]
  have h0 : (i 0).val < 4 := (i 0).isLt
  have h1 : (i 1).val < 256 := (i 1).isLt
  have h2 : (i 2).val < 1024 := (i 2).isLt
  rcases (by omega : (i 0).val = 0 ∨ (i 0).val = 1 ∨ (i 0).val = 2 ∨ (i 0).val = 3) with h | h | h | h
  · exact ⟨0, Rect.mem_set_unit.mpr fun a => by fin_cases a <;> simp <;> omega⟩
  · exact ⟨1, Rect.mem_set_unit.mpr fun a => by fin_cases a <;> simp <;> omega⟩
  · exact ⟨2, Rect.mem_set_unit.mpr fun a => by fin_cases a <;> simp <;> omega⟩
  · exact ⟨3, Rect.mem_set_unit.mpr fun a => by fin_cases a <;> simp <;> omega⟩
theorem pRect_cov : (Finset.univ : Finset (Fin 5)).biUnion (fun t => (pRect t).set) = Finset.univ := by
  ext i
  simp only [Finset.mem_biUnion, Finset.mem_univ, true_and, iff_true]
  have h0 : (i 0).val < 4 := (i 0).isLt
  have h1 : (i 1).val < 256 := (i 1).isLt
  have h2 : (i 2).val < 1024 := (i 2).isLt
  rcases (by omega : (i 0).val = 0 ∨ (i 0).val = 1 ∨ (i 0).val = 2 ∨ ((i 0).val = 3 ∧ (i 1).val < 128) ∨ ((i 0).val = 3 ∧ 128 ≤ (i 1).val)) with h | h | h | h | h
  · exact ⟨0, Rect.mem_set_unit.mpr fun a => by fin_cases a <;> simp <;> omega⟩
  · exact ⟨1, Rect.mem_set_unit.mpr fun a => by fin_cases a <;> simp <;> omega⟩
  · exact ⟨2, Rect.mem_set_unit.mpr fun a => by fin_cases a <;> simp <;> omega⟩
  · exact ⟨3, Rect.mem_set_unit.mpr fun a => by fin_cases a <;> simp <;> omega⟩
  · exact ⟨4, Rect.mem_set_unit.mpr fun a => by fin_cases a <;> simp <;> omega⟩
theorem rRect_cov : (Finset.univ : Finset (Fin 4)).biUnion (fun t => (rRect t).set) = Finset.univ := by
  ext i
  simp only [Finset.mem_biUnion, Finset.mem_univ, true_and, iff_true]
  have h0 : (i 0).val < 3 := (i 0).isLt
  have h1 : (i 1).val < 256 := (i 1).isLt
  have h2 : (i 2).val < 1024 := (i 2).isLt
  rcases (by omega : (i 0).val = 0 ∨ (i 0).val = 1 ∨ ((i 0).val = 2 ∧ (i 1).val < 128) ∨ ((i 0).val = 2 ∧ 128 ≤ (i 1).val)) with h | h | h | h
  · exact ⟨0, Rect.mem_set_unit.mpr fun a => by fin_cases a <;> simp <;> omega⟩
  · exact ⟨1, Rect.mem_set_unit.mpr fun a => by fin_cases a <;> simp <;> omega⟩
  · exact ⟨2, Rect.mem_set_unit.mpr fun a => by fin_cases a <;> simp <;> omega⟩
  · exact ⟨3, Rect.mem_set_unit.mpr fun a => by fin_cases a <;> simp <;> omega⟩
theorem sRect_cov : (Finset.univ : Finset (Fin 3)).biUnion (fun t => (sRect t).set) = Finset.univ := by
  ext i
  simp only [Finset.mem_biUnion, Finset.mem_univ, true_and, iff_true]
  have h0 : (i 0).val < 3 := (i 0).isLt
  have h1 : (i 1).val < 256 := (i 1).isLt
  have h2 : (i 2).val < 1024 := (i 2).isLt
  rcases (by omega : (i 0).val = 0 ∨ (i 0).val = 1 ∨ (i 0).val = 2) with h | h | h
  · exact ⟨0, Rect.mem_set_unit.mpr fun a => by fin_cases a <;> simp <;> omega⟩
  · exact ⟨1, Rect.mem_set_unit.mpr fun a => by fin_cases a <;> simp <;> omega⟩
  · exact ⟨2, Rect.mem_set_unit.mpr fun a => by fin_cases a <;> simp <;> omega⟩

/-! ## A buffer in its places -/

variable (c : Dev nD)

theorem four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl
theorem five (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide), bigSepL_cons_cons, bigSepL_cons_cons, bigSepL_cons_cons, bigSepL_cons_cons, bigSepL_singleton]; rfl
theorem three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]; rfl

theorem xs_split : (heldAny c xM : sProp 𝕄) ⊢ iprop(heldAny c xs0 ∗ heldAny c xs1 ∗ heldAny c xs2 ∗ heldAny c xs3) :=
  (ownsSat_mono _ _ _ fun _ _ _ => trivial).trans ((ownsSat_rects (c : Thread nD τ) xM fullShare xRect xRect_stride xRect_disj xRect_cov fun _ _ => True).trans
    (Entails.of_eq (four _)))
theorem xs_join : iprop(heldAny c xs0 ∗ heldAny c xs1 ∗ heldAny c xs2 ∗ heldAny c xs3) ⊢ (heldAny c xM : sProp 𝕄) :=
  (Entails.of_eq (four fun t => ownsSat (c : Thread nD τ) (xM.slice (xRect t) (xRect_stride t)) fullShare fun _ => True).symm).trans
    ((ownsSat_of_rects (c : Thread nD τ) xM fullShare xRect xRect_stride xRect_disj xRect_cov fun _ _ => True).trans (ownsSat_mono _ _ _ fun _ _ => trivial))
theorem ps_split : (heldAny c pM : sProp 𝕄) ⊢ iprop(heldAny c ps0 ∗ heldAny c ps1 ∗ heldAny c ps2 ∗ heldAny c ps3 ∗ heldAny c ps4) :=
  (ownsSat_mono _ _ _ fun _ _ _ => trivial).trans ((ownsSat_rects (c : Thread nD τ) pM fullShare pRect pRect_stride pRect_disj pRect_cov fun _ _ => True).trans
    (Entails.of_eq (five _)))
theorem ps_join : iprop(heldAny c ps0 ∗ heldAny c ps1 ∗ heldAny c ps2 ∗ heldAny c ps3 ∗ heldAny c ps4) ⊢ (heldAny c pM : sProp 𝕄) :=
  (Entails.of_eq (five fun t => ownsSat (c : Thread nD τ) (pM.slice (pRect t) (pRect_stride t)) fullShare fun _ => True).symm).trans
    ((ownsSat_of_rects (c : Thread nD τ) pM fullShare pRect pRect_stride pRect_disj pRect_cov fun _ _ => True).trans (ownsSat_mono _ _ _ fun _ _ => trivial))
theorem rs_split : (heldAny c rM : sProp 𝕄) ⊢ iprop(heldAny c rs0 ∗ heldAny c rs1 ∗ heldAny c rs2 ∗ heldAny c rs3) :=
  (ownsSat_mono _ _ _ fun _ _ _ => trivial).trans ((ownsSat_rects (c : Thread nD τ) rM fullShare rRect rRect_stride rRect_disj rRect_cov fun _ _ => True).trans
    (Entails.of_eq (four _)))
theorem rs_join : iprop(heldAny c rs0 ∗ heldAny c rs1 ∗ heldAny c rsF) ⊢ (heldAny c rM : sProp 𝕄) :=
  (Entails.of_eq (three fun t => ownsSat (c : Thread nD τ) (rM.slice (sRect t) (sRect_stride t)) fullShare fun _ => True).symm).trans
    ((ownsSat_of_rects (c : Thread nD τ) rM fullShare sRect sRect_stride sRect_disj sRect_cov fun _ _ => True).trans (ownsSat_mono _ _ _ fun _ _ => trivial))

/-- What the third slot's two halves hold is the slot's rows, the first half's above the second's. -/
theorem slot_halves (X : S3x256x1024.Idx → Elt F .bf16) :
    (fun j => X ((sRect 2).emb j)) = stack128 (fun j => X ((rRect 2).emb j)) (fun j => X ((rRect 3).emb j)) := by
  funext j
  have h0 : (j 0).val < 1 := (j 0).isLt
  unfold stack128
  split
  · congr 1; funext a; apply Fin.ext; fin_cases a
    · rfl
    · rfl
    · rfl
  · next h =>
    have h' : 128 ≤ (j 1).val := Nat.le_of_not_lt h
    congr 1; funext a; apply Fin.ext; fin_cases a
    · rfl
    · show 0 + 1 * (j 1).val = 128 + 1 * ((j 1).val - 128); omega
    · rfl

/-- The landing buffer's third slot from its two halves, with the other two slots beside it. -/
theorem rs_whole (Φ₀ Φ₁ : (S1x256x1024.Idx → Elt F .bf16) → Prop) (Φ₂ Φ₃ : (S1x128x1024.Idx → Elt F .bf16) → Prop) :
    iprop(ownsSat (c : Thread nD τ) rs0 fullShare Φ₀ ∗ ownsSat (c : Thread nD τ) rs1 fullShare Φ₁ ∗ ownsSat (c : Thread nD τ) rs2 fullShare Φ₂
      ∗ ownsSat (c : Thread nD τ) rs3 fullShare Φ₃)
    ⊢ (iprop(ownsSat (c : Thread nD τ) rs0 fullShare Φ₀ ∗ ownsSat (c : Thread nD τ) rs1 fullShare Φ₁
      ∗ ownsSat (c : Thread nD τ) rsF fullShare (fun X => ∃ a b, Φ₂ a ∧ Φ₃ b ∧ X = stack128 a b)) : sProp 𝕄) := by
  let Ψ : (t : Fin 4) → ((rRect t).shape.Idx → Elt F .bf16) → Prop := fun t => match t with
    | 0 => Φ₀ | 1 => Φ₁ | 2 => Φ₂ | 3 => Φ₃
  let Ψ' : (t : Fin 3) → ((sRect t).shape.Idx → Elt F .bf16) → Prop := fun t => match t with
    | 0 => Φ₀ | 1 => Φ₁ | 2 => fun X => ∃ a b, Φ₂ a ∧ Φ₃ b ∧ X = stack128 a b
  refine (Entails.of_eq (four fun t => ownsSat (c : Thread nD τ) (rM.slice (rRect t) (rRect_stride t)) fullShare (Ψ t)).symm).trans ?_
  refine (ownsSat_of_rects (c : Thread nD τ) rM fullShare rRect rRect_stride rRect_disj rRect_cov Ψ).trans ?_
  refine BIBase.Entails.trans ?_ (Entails.of_eq (three fun t => ownsSat (c : Thread nD τ) (rM.slice (sRect t) (sRect_stride t)) fullShare (Ψ' t)))
  refine BIBase.Entails.trans ?_ (ownsSat_rects (c : Thread nD τ) rM fullShare sRect sRect_stride sRect_disj sRect_cov Ψ')
  refine ownsSat_mono _ _ _ fun X hX t => ?_
  fin_cases t
  · exact hX 0
  · exact hX 1
  · exact ⟨_, _, hX 2, hX 3, slot_halves X⟩

end Cert.Swa

end
-- ==== Proof.Body.lean ====
/-
# The kernel's run on one device

The body of the kernel, run once at a symbolic device `c` over any float operations: from its buffers, slots, tokens and
credits to its buffers and slots again, all semaphores at zero, and the staged block of the result at a value of the
form `resultOf`.
-/
module

public import proofs.«01_k».proof.Proof.Moves
public import proofs.«01_k».proof.Proof.Slots
public import proofs.«01_k».proof.Proof.Gen.KernelIdeal.Points

@[expose] public section

noncomputable section

namespace Cert.Swa

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 15 → ℕ)

/-- A memref's buffer held whole at contents. -/
abbrev ptM (c : Dev nD) {sp : Space} {S : Shape} {e : EltTy} (M : Memref sig .tc sp S e) (f : Buf (Elt F) (M.view.loc (c : Thread nD τ))) : sProp 𝕄 :=
  M.view.loc (c : Thread nD τ) ↦{fullShare} f
/-- A local semaphore at zero. -/
abbrev zero (c : Dev nD) (q : DmaSem sig) : sProp 𝕄 := semVal ((c : Thread nD τ), SemLoc.dma q) 0

/-- A device's five operands at their launch contents. -/
def argsAt (c : Dev nD) : sProp 𝕄 :=
  iprop(ptM c (Memref.whole main_arg0) (m ((c : Thread nD τ).loc main_arg0)) ∗ ptM c (Memref.whole main_arg1) (m ((c : Thread nD τ).loc main_arg1))
    ∗ ptM c (Memref.whole main_arg2) (m ((c : Thread nD τ).loc main_arg2)) ∗ ptM c (Memref.whole main_arg3) (m ((c : Thread nD τ).loc main_arg3))
    ∗ ptM c (Memref.whole main_arg4) (m ((c : Thread nD τ).loc main_arg4)))
/-- The semaphores of the five copies in, at zero. -/
def zeros (c : Dev nD) : sProp 𝕄 :=
  iprop(zero c ⟨1, by decide⟩ ∗ zero c ⟨2, by decide⟩ ∗ zero c ⟨3, by decide⟩ ∗ zero c ⟨4, by decide⟩ ∗ zero c ⟨5, by decide⟩)
/-- The five buffers no other device touches. -/
def bufs (c : Dev nD) (f0 : cc0_scratch0.ty.Contents (Elt F)) (f1 : cc0_scratch1.ty.Contents (Elt F)) (f2 : cc0_scratch2.ty.Contents (Elt F))
    (f3 : cc0_scratch3.ty.Contents (Elt F)) (f4 : cc0_scratch4.ty.Contents (Elt F)) : sProp 𝕄 :=
  iprop(ptM c (Memref.whole cc0_scratch0) f0 ∗ ptM c (Memref.whole cc0_scratch1) f1 ∗ ptM c (Memref.whole cc0_scratch2) f2
    ∗ ptM c (Memref.whole cc0_scratch3) f3 ∗ ptM c (Memref.whole cc0_scratch4) f4)
/-- The places of the three shared buffers, at any contents. -/
def places (c : Dev nD) : sProp 𝕄 :=
  iprop((heldAny c xs0 ∗ heldAny c xs1 ∗ heldAny c xs2 ∗ heldAny c xs3)
    ∗ (heldAny c ps0 ∗ heldAny c ps1 ∗ heldAny c ps2 ∗ heldAny c ps3 ∗ heldAny c ps4)
    ∗ (heldAny c rs0 ∗ heldAny c rs1 ∗ heldAny c rs2 ∗ heldAny c rs3))
/-- The tokens of the duties a device pays: three barriers, the gather's copies, the partial results' copies. -/
def tokens (c : Dev nD) : sProp 𝕄 :=
  iprop((dutyTok ER (cellAt (fwd 1 c) 0) 0 0 ∗ dutyTok ER (cellAt (fwd 2 c) 0) 0 1 ∗ dutyTok ER (cellAt (fwd 3 c) 0) 0 2)
    ∗ (dutyTok ER (cellAt c 1) 0 0 ∗ dutyTok ER (cellAt c 2) 0 0 ∗ dutyTok ER (cellAt c 3) 0 0)
    ∗ (dutyTok ER (cellAt (fwd 1 c) 4) 0 0 ∗ dutyTok ER (cellAt (fwd 2 c) 5) 0 0 ∗ dutyTok ER (cellAt (fwd 3 c) 6) 0 0)
    ∗ (dutyTok ER (cellAt c 7) 0 0 ∗ dutyTok ER (cellAt c 8) 0 0 ∗ dutyTok ER (cellAt c 9) 0 0 ∗ dutyTok ER (cellAt c 10) 0 0)
    ∗ (dutyTok ER (cellAt (back 1 c) 11) 0 0 ∗ dutyTok ER (cellAt (back 2 c) 12) 0 0 ∗ dutyTok ER (cellAt (back 3 c) 13) 0 0 ∗ dutyTok ER (cellAt (back 3 c) 14) 0 0))
/-- The device's place in its own cells. -/
def seats (c : Dev nD) : sProp 𝕄 :=
  iprop(atPos ER (cellAt c 0) 0 ∅ 0 ∗ (atPos ER (cellAt c 1) 0 ∅ 0 ∗ atPos ER (cellAt c 2) 0 ∅ 0 ∗ atPos ER (cellAt c 3) 0 ∅ 0)
    ∗ (atPos ER (cellAt c 4) 0 ∅ 0 ∗ atPos ER (cellAt c 5) 0 ∅ 0 ∗ atPos ER (cellAt c 6) 0 ∅ 0)
    ∗ (atPos ER (cellAt c 7) 0 ∅ 0 ∗ atPos ER (cellAt c 8) 0 ∅ 0 ∗ atPos ER (cellAt c 9) 0 ∅ 0 ∗ atPos ER (cellAt c 10) 0 ∅ 0)
    ∗ (atPos ER (cellAt c 11) 0 ∅ 0 ∗ atPos ER (cellAt c 12) 0 ∅ 0 ∗ atPos ER (cellAt c 13) 0 ∅ 0 ∗ atPos ER (cellAt c 14) 0 ∅ 0))
/-- The credit for what the other devices owe to its cells. -/
def credits (c : Dev nD) : sProp 𝕄 :=
  iprop(cred (tallyAt (cellAt c 0) () 3) ∗ (cred (tallyAt (cellAt c 4) () N) ∗ cred (tallyAt (cellAt c 5) () N) ∗ cred (tallyAt (cellAt c 6) () N))
    ∗ (cred (tallyAt (cellAt c 11) () N) ∗ cred (tallyAt (cellAt c 12) () N) ∗ cred (tallyAt (cellAt c 13) () Nh) ∗ cred (tallyAt (cellAt c 14) () Nh)))

/-- The semaphores of the exchange, at zero again. -/
def cellsDone (c : Dev nD) : sProp 𝕄 :=
  iprop(semVal (cellAt c 0) 0 ∗ (semVal (cellAt c 1) 0 ∗ semVal (cellAt c 2) 0 ∗ semVal (cellAt c 3) 0)
    ∗ (semVal (cellAt c 4) 0 ∗ semVal (cellAt c 5) 0 ∗ semVal (cellAt c 6) 0)
    ∗ (semVal (cellAt c 7) 0 ∗ semVal (cellAt c 8) 0 ∗ semVal (cellAt c 9) 0 ∗ semVal (cellAt c 10) 0)
    ∗ (semVal (cellAt c 11) 0 ∗ semVal (cellAt c 12) 0 ∗ semVal (cellAt c 13) 0 ∗ semVal (cellAt c 14) 0))
/-- What a device holds at the end: its buffers again, the operands as they were, every semaphore at zero, no debt, and
its block of the result. -/
def ends (c : Dev nD) : sProp 𝕄 :=
  iprop(owesAny (F := F) c 10 ∗ (∃ f0 f1 f2 f3 f4, bufs c f0 f1 f2 f3 f4) ∗ (∃ p, ptM c (Memref.whole cc0_stg0_0) (resultOf m c p))
    ∗ argsAt m c ∗ zeros (F := F) c ∗ cellsDone (F := F) c ∗ (heldAny c xM ∗ heldAny c pM ∗ heldAny c rM))

/-- No step back. -/
theorem back_0 (c : Dev nD) : back 0 c = c := by revert c; decide
/-- A program that has ended. -/
theorem wp_done (c : Dev nD) {α : Type} {Q : α → sProp 𝕄} {a : α} :
    Q a ⊢ wp frame (wpE (defs₀ (F := F)) 𝒱₀ (c : Thread nD τ) none) Set.univ (.ret a) Q := by
  rw [wp_ret]; exact fupd_intro

/-- What a device's barrier brings: the places it writes to on the other devices. -/
theorem rest_bar' (c : Dev nD) : bigSep ((Rd (F := F) m).duties (cellAt c 0) 0 \ ∅) (fun d => (Rd (F := F) m).payload (cellAt c 0) 0 d)
    = iprop((heldAny (F := F) (fwd 3 c) xs3 ∗ heldAny (F := F) (back 1 c) rs0) ∗ (heldAny (F := F) (fwd 2 c) xs2 ∗ heldAny (F := F) (back 2 c) rs1)
      ∗ (heldAny (F := F) (fwd 1 c) xs1 ∗ heldAny (F := F) (back 3 c) rs2 ∗ heldAny (F := F) (back 3 c) rs3)) := by
  rw [rest_bar]
  unfold barPay
  rw [← back_1 c, ← back_2 c, ← back_3 c]

set_option maxHeartbeats 4000000 in
/-- The run of one device. -/
theorem body_run (c : Dev nD) (f0 : cc0_scratch0.ty.Contents (Elt F)) (f1 : cc0_scratch1.ty.Contents (Elt F)) (f2 : cc0_scratch2.ty.Contents (Elt F)) (f3 : cc0_scratch3.ty.Contents (Elt F)) (f4 : cc0_scratch4.ty.Contents (Elt F))
   (g : cc0_stg0_0.ty.Contents (Elt F)) :
    iprop(world m K ∗ owesAny (F := F) c 0 ∗ bufs c f0 f1 f2 f3 f4 ∗ ptM c (Memref.whole cc0_stg0_0) g ∗ argsAt m c ∗ zeros (F := F) c
      ∗ places (F := F) c ∗ tokens (F := F) c ∗ seats (F := F) c ∗ credits (F := F) c)
    ⊢ wp frame (wpE (defs₀ (F := F)) 𝒱₀ (c : Thread nD τ) none) Set.univ (bodyAt0 t0_0) (fun _ => ends m c) := by
  unfold bufs argsAt zeros places tokens seats credits
  iintro ⟨#HW, HO, ⟨H0, H1, H2, H3, H4⟩, Hg, ⟨A0, A1, A2, A3, A4⟩, ⟨Z1, Z2, Z3, Z4, Z5⟩,
    ⟨⟨X0, X1, X2, X3⟩, ⟨P0, P1, P2, P3, P4⟩, ⟨R0, R1, R2, R3⟩⟩,
    ⟨⟨TB0, TB1, TB2⟩, ⟨T1, T2, T3⟩, ⟨T4, T5, T6⟩, ⟨T7, T8, T9, T10⟩, ⟨T11, T12, T13, T14⟩⟩,
    ⟨S0, ⟨S1, S2, S3⟩, ⟨S4, S5, S6⟩, ⟨S7, S8, S9, S10⟩, ⟨S11, S12, S13, S14⟩⟩,
    ⟨C0, ⟨C4, C5, C6⟩, ⟨C11, C12, C13, C14⟩⟩⟩
  have hm1 : ∀ k, world m K ⊢ MayWait (c : Thread nD τ) (.dma ⟨1, by decide⟩) () (owed c k) := fun k => (world_lev m K).trans (mayWait_own c _ k rfl)
  have hm2 : ∀ k, world m K ⊢ MayWait (c : Thread nD τ) (.dma ⟨2, by decide⟩) () (owed c k) := fun k => (world_lev m K).trans (mayWait_own c _ k rfl)
  have hm3 : ∀ k, world m K ⊢ MayWait (c : Thread nD τ) (.dma ⟨3, by decide⟩) () (owed c k) := fun k => (world_lev m K).trans (mayWait_own c _ k rfl)
  have hm4 : ∀ k, world m K ⊢ MayWait (c : Thread nD τ) (.dma ⟨4, by decide⟩) () (owed c k) := fun k => (world_lev m K).trans (mayWait_own c _ k rfl)
  have hm5 : ∀ k, world m K ⊢ MayWait (c : Thread nD τ) (.dma ⟨5, by decide⟩) () (owed c k) := fun k => (world_lev m K).trans (mayWait_own c _ k rfl)
  unfold bodyAt0
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  sl_exec
  iapply (wp_signal_bar m K c (fwd 1 c) (dev1_eq c) rfl 0 0 rfl) $$ [HO TB0 X3 R0]
  · isplitr; · iexact HW
    isplitl [HO]; · iexact HO
    isplitl [TB0]; · iexact TB0
    unfold barPay
    rw [back_fwd]
    isplitl [X3]; · iexact X3
    iexact R0
  iintro HO
  sl_exec
  iapply (wp_signal_bar m K c (fwd 2 c) (dev2_eq c) rfl 1 1 rfl) $$ [HO TB1 X2 R1]
  · isplitr; · iexact HW
    isplitl [HO]; · iexact HO
    isplitl [TB1]; · iexact TB1
    unfold barPay
    rw [back_fwd]
    isplitl [X2]; · iexact X2
    iexact R1
  iintro HO
  sl_exec
  iapply (wp_signal_bar m K c (fwd 3 c) (dev3_eq c) rfl 2 2 rfl) $$ [HO TB2 X1 R2 R3]
  · isplitr; · iexact HW
    isplitl [HO]; · iexact HO
    isplitl [TB2]; · iexact TB2
    unfold barPay
    rw [back_fwd]
    isplitl [X1]; · iexact X1
    isplitl [R2]; · iexact R2
    iexact R3
  iintro HO
  icases HO with ⟨%W, HO⟩
  sl_exec
  iapply (wp_load_slot c (fun _ => rfl)) $$ X0
  iintro %x0 - X0
  iapply (wp_store_slot c (fun _ => rfl)) $$ X0
  iintro X0
  iapply (wp_ret_bind c)
  sl_exec
  iapply (wp_wait_cell m K c 0 3 (fun P => wpE_semWait_eq 𝒱₀ (c : Thread nD τ) none Set.univ P) (expect_bar m c) 3 (by decide) _ (rest_bar' m c)) $$ [C0 HO S0]
  · isplitr; · iexact HW
    isplitl [C0]; · iexact C0
    isplitl [HO]; · iexists _; iexact HO
    iexact S0
  iintro ⟨HO, Y0, ⟨D3, B0⟩, ⟨D2, B1⟩, D1, B2, B3⟩
  have hx : k0_pay2 (body_run.sl.v71 m c f0) = xSent m c :=
    congrArg k0_pay2 ((Memref.readAt_unit_zero (Elt F) cc0_scratch0 (by funext a; fin_cases a <;> rfl) _ _).trans (View.write_whole_univ _ _ _))
  rw [hx]
  ihave X0 := (quarters c xs0 _).1 $$ X0
  icases X0 with ⟨⟨X0, X0a⟩, X0b, X0c⟩
  sl_exec
  iapply (wp_spread1 m K c) $$ [HO T1 T4 X0a D1]
  · isplitr; · iexact HW
    isplitl [HO]; · iexact HO
    isplitl [T1]; · iexact T1
    isplitl [T4]; · iexact T4
    isplitl [X0a]; · iexact X0a
    iexact D1
  iintro ⟨HO, C1⟩
  sl_exec
  iapply (wp_spread2 m K c) $$ [HO T2 T5 X0b D2]
  · isplitr; · iexact HW
    isplitl [HO]; · iexact HO
    isplitl [T2]; · iexact T2
    isplitl [T5]; · iexact T5
    isplitl [X0b]; · iexact X0b
    iexact D2
  iintro ⟨HO, C2⟩
  sl_exec
  iapply (wp_spread3 m K c) $$ [HO T3 T6 X0c D3]
  · isplitr; · iexact HW
    isplitl [HO]; · iexact HO
    isplitl [T3]; · iexact T3
    isplitl [T6]; · iexact T6
    isplitl [X0c]; · iexact X0c
    iexact D3
  iintro ⟨HO, C3⟩
  clear W
  icases HO with ⟨%W, HO⟩
  sl_exec
  iapply (wp_load_slot c (fun _ => rfl)) $$ X0
  iintro %y0 %hy0 X0
  subst hy0
  sl_exec
  iapply (wp_load_slot c (fun _ => rfl)) $$ P0
  iintro %z0 - P0
  iapply (wp_store_slot c (fun _ => rfl)) $$ P0
  iintro P0
  have vP0 : k0_pay20 (body_run.sl.r_12 m c f1 f2 f4) = partOf m c 0 (f2, vM.view.junk) := by
    have hq : body_run.sl.v160 m c f1 = wqOf m c :=
      (Memref.readAt_unit_zero (Elt F) cc0_scratch1 (by funext a; fin_cases a <;> rfl) _ _).trans (View.write_whole_univ _ _ _)
    have ho : body_run.sl.v303 m c f4 = woOf m c :=
      (Memref.readAt_unit_zero (Elt F) cc0_scratch4 (by funext a; fin_cases a <;> rfl) _ _).trans (View.write_whole_univ _ _ _)
    refine Eq.trans (b := part256 (biasAt c 0#32) (queries (body_run.sl.v160 m c f1) (xSent m (c)))
      (window kM c 0 (keyBuf m c f2)) (window vM c 0 (valBuf m c vM.view.junk)) (body_run.sl.v303 m c f4)) rfl ?_
    rw [hq, ho]
    rw [show xSent m c = xSent m (back 0 c) from congrArg _ (back_0 c).symm]
    rfl
  rw [vP0]
  icases HO with HO
  iapply (wp_wait_slot m K c 4 (by decide) N 6 (by decide) rfl credit_xs1 (amount_N _ (by decide)) (heldAt c xs1 fullShare (xSent m (back 1 c))) rfl) $$ [C4 HO S4]
  · isplitr; · iexact HW
    isplitl [C4]; · iexact C4
    isplitl [HO]; · first | iexact HO | (iexists _; iexact HO)
    iexact S4
  iintro ⟨HO, Y4, X1⟩
  try iapply (wp_ret_bind c)
  try sl_exec
  iapply (wp_load_slot c (fun _ => rfl)) $$ X1
  iintro %y1 %hy1 X1
  subst hy1
  try iapply (wp_ret_bind c)
  sl_exec
  iapply (wp_load_slot c (fun _ => rfl)) $$ P1
  iintro %z1 - P1
  iapply (wp_store_slot c (fun _ => rfl)) $$ P1
  iintro P1
  have vP1 : k0_pay34 (body_run.sl.r_13 c) (body_run.sl.r_14 m c f1) (body_run.sl.r_17 m c f1 f2) (body_run.sl.r_18 m c f1 f2)
      (body_run.sl.r_19 m c f1 f2) (body_run.sl.r_21 m c f1 f2) (body_run.sl.r_22 m c f1 f2)
      (body_run.sl.r_23 m c f1 f2) (body_run.sl.r_24 m c f1 f2) (body_run.sl.v422 m c f2) (body_run.sl.v425 m c)
      (body_run.sl.v437 m c f2) (body_run.sl.v440 m c) (body_run.sl.v451 m c f4) = partOf m c 1 (f2, vM.view.junk) := by
    have hq : body_run.sl.v325 m c f1 = wqOf m c :=
      (Memref.readAt_unit_zero (Elt F) cc0_scratch1 (by funext a; fin_cases a <;> rfl) _ _).trans (View.write_whole_univ _ _ _)
    have ho : body_run.sl.v451 m c f4 = woOf m c :=
      (Memref.readAt_unit_zero (Elt F) cc0_scratch4 (by funext a; fin_cases a <;> rfl) _ _).trans (View.write_whole_univ _ _ _)
    refine (show _ = part256 (biasAt c 1#32) (queries (body_run.sl.v325 m c f1) (xSent m (back 1 c)))
      (window kM c 1 (keyBuf m c f2)) (window vM c 1 (valBuf m c vM.view.junk)) (body_run.sl.v451 m c f4) from rfl).trans (by rw [hq, ho]; rfl)
  rw [vP1]
  try iapply (wp_ret_bind c)
  try sl_exec
  iapply (wp_return1 m K c (f2, vM.view.junk)) $$ [HO T7 T11 P1 B0]
  · isplitr; · iexact HW
    isplitl [HO]; · iexact HO
    isplitl [T7]; · iexact T7
    isplitl [T11]; · iexact T11
    isplitl [P1]; · iexact P1
    iexact B0
  iintro ⟨HO, C7⟩
  sl_exec
  iapply (wp_wait_slot m K c 5 (by decide) N 7 (by decide) rfl credit_xs2 (amount_N _ (by decide)) (heldAt c xs2 fullShare (xSent m (back 2 c))) rfl) $$ [C5 HO S5]
  · isplitr; · iexact HW
    isplitl [C5]; · iexact C5
    isplitl [HO]; · first | iexact HO | (iexists _; iexact HO)
    iexact S5
  iintro ⟨HO, Y5, X2⟩
  try iapply (wp_ret_bind c)
  try sl_exec
  iapply (wp_load_slot c (fun _ => rfl)) $$ X2
  iintro %y2 %hy2 X2
  subst hy2
  try iapply (wp_ret_bind c)
  sl_exec
  iapply (wp_load_slot c (fun _ => rfl)) $$ P2
  iintro %z2 - P2
  iapply (wp_store_slot c (fun _ => rfl)) $$ P2
  iintro P2
  have vP2 : k0_pay49 (body_run.sl.r_25 c) (body_run.sl.r_27 m c f1 f2) (body_run.sl.r_30 m c f1 f2)
        (body_run.sl.r_31 m c f1 f2) (body_run.sl.r_32 m c f1 f2) (body_run.sl.r_35 m c f1 f2)
        (body_run.sl.r_36 m c f1 f2) (body_run.sl.r_37 m c f1 f2) (body_run.sl.r_38 m c f1) (body_run.sl.v607 m c f2)
        (body_run.sl.v610 m c) (body_run.sl.v621 m c f4) = partOf m c 2 (f2, vM.view.junk) := by
    have hq : body_run.sl.v495 m c f1 = wqOf m c :=
      (Memref.readAt_unit_zero (Elt F) cc0_scratch1 (by funext a; fin_cases a <;> rfl) _ _).trans (View.write_whole_univ _ _ _)
    have ho : body_run.sl.v621 m c f4 = woOf m c :=
      (Memref.readAt_unit_zero (Elt F) cc0_scratch4 (by funext a; fin_cases a <;> rfl) _ _).trans (View.write_whole_univ _ _ _)
    refine (show _ = part256 (biasAt c 2#32) (queries (body_run.sl.v495 m c f1) (xSent m (back 2 c)))
      (window kM c 2 (keyBuf m c f2)) (window vM c 2 (valBuf m c vM.view.junk)) (body_run.sl.v621 m c f4) from rfl).trans (by rw [hq, ho]; rfl)
  rw [vP2]
  try iapply (wp_ret_bind c)
  try sl_exec
  iapply (wp_return2 m K c (f2, vM.view.junk)) $$ [HO T8 T12 P2 B1]
  · isplitr; · iexact HW
    isplitl [HO]; · iexact HO
    isplitl [T8]; · iexact T8
    isplitl [T12]; · iexact T12
    isplitl [P2]; · iexact P2
    iexact B1
  iintro ⟨HO, C8⟩
  sl_exec
  iapply (wp_wait_slot m K c 6 (by decide) N 8 (by decide) rfl credit_xs3 (amount_N _ (by decide)) (heldAt c xs3 fullShare (xSent m (back 3 c))) rfl) $$ [C6 HO S6]
  · isplitr; · iexact HW
    isplitl [C6]; · iexact C6
    isplitl [HO]; · first | iexact HO | (iexists _; iexact HO)
    iexact S6
  iintro ⟨HO, Y6, X3⟩
  try iapply (wp_ret_bind c)
  try sl_exec
  iapply (wp_load_slot c (fun _ => rfl)) $$ X3
  iintro %y3 %hy3 X3
  subst hy3
  try iapply (wp_ret_bind c)
  sl_exec
  iapply (wp_load_slot c (fun _ => rfl)) $$ P3
  iintro %z3 - P3
  iapply (wp_store_slot c (fun _ => rfl)) $$ P3
  iintro P3
  have vP3 : k0_pay63 (body_run.sl.r_51 m c f1 f2) (body_run.sl.v792 m c f4) = partTop m c (f2, vM.view.junk) := by
    have hq : body_run.sl.v660 m c f1 = wqOf m c :=
      (Memref.readAt_unit_zero (Elt F) cc0_scratch1 (by funext a; fin_cases a <;> rfl) _ _).trans (View.write_whole_univ _ _ _)
    have ho : body_run.sl.v792 m c f4 = woOf m c :=
      (Memref.readAt_unit_zero (Elt F) cc0_scratch4 (by funext a; fin_cases a <;> rfl) _ _).trans (View.write_whole_univ _ _ _)
    refine (show _ = proj128 (ctxTop (extractStridedSlice S128x512 ![0, 0] (biasAt c 3#32) slices_S256x512_o0_0_S128x512)
      (queries (body_run.sl.v660 m c f1) (xSent m (back 3 c))) (window kM c 3 (keyBuf m c f2)) (window vM c 3 (valBuf m c vM.view.junk)))
      (body_run.sl.v792 m c f4) from rfl).trans (by rw [hq, ho]; rfl)
  rw [vP3]
  try iapply (wp_ret_bind c)
  try sl_exec
  iapply (wp_return3 m K c (f2, vM.view.junk)) $$ [HO T9 T13 P3 B2]
  · isplitr; · iexact HW
    isplitl [HO]; · iexact HO
    isplitl [T9]; · iexact T9
    isplitl [T13]; · iexact T13
    isplitl [P3]; · iexact P3
    iexact B2
  iintro ⟨HO, C9⟩
  sl_exec
  iapply (wp_load_slot c (fun _ => rfl)) $$ P4
  iintro %z4 - P4
  try iapply (wp_ret_bind c)
  sl_exec
  iapply (wp_store_slot c (fun _ => rfl)) $$ P4
  iintro P4
  have vP4 : k0_pay77 (body_run.sl.r_64 m c f1 f2 f4) = partBot m c (f2, vM.view.junk) := by
    have hq : body_run.sl.v660 m c f1 = wqOf m c :=
      (Memref.readAt_unit_zero (Elt F) cc0_scratch1 (by funext a; fin_cases a <;> rfl) _ _).trans (View.write_whole_univ _ _ _)
    have ho : body_run.sl.v942 m c f4 = woOf m c :=
      (Memref.readAt_unit_zero (Elt F) cc0_scratch4 (by funext a; fin_cases a <;> rfl) _ _).trans (View.write_whole_univ _ _ _)
    refine (show _ = proj128 (ctxBot (extractStridedSlice S128x512 ![128, 0] (biasAt c 3#32) slices_S256x512_o128_0_S128x512)
      (queries (body_run.sl.v660 m c f1) (xSent m (back 3 c))) (window kM c 3 (keyBuf m c f2)) (window vM c 3 (valBuf m c vM.view.junk)))
      (body_run.sl.v942 m c f4) from rfl).trans (by rw [hq, ho]; rfl)
  rw [vP4]
  try iapply (wp_ret_bind c)
  try sl_exec
  iapply (wp_return4 m K c (f2, vM.view.junk)) $$ [HO T10 T14 P4 B3]
  · isplitr; · iexact HW
    isplitl [HO]; · iexact HO
    isplitl [T10]; · iexact T10
    isplitl [T14]; · iexact T14
    isplitl [P4]; · iexact P4
    iexact B3
  iintro ⟨HO, C10⟩
  try sl_exec
  iapply (wp_load_slot c (fun _ => rfl)) $$ P0
  iintro %u0 %hu0 P0
  subst hu0
  try iapply (wp_ret_bind c)
  sl_exec
  iapply (wp_wait_slot m K c 11 (by decide) N 10 (by decide) rfl credit_rs0 (amount_N _ (by decide)) (ownsSat (c : Thread nD τ) rs0 fullShare (fun X => ∃ p, X = partOf m (fwd 1 c) 1 p)) rfl) $$ [C11 HO S11]
  · isplitr; · iexact HW
    isplitl [C11]; · iexact C11
    isplitl [HO]; · first | iexact HO | (iexists _; iexact HO)
    iexact S11
  iintro ⟨HO, Y11, R0⟩
  try iapply (wp_ret_bind c)
  try sl_exec
  iapply (wp_load_slot c (fun _ => rfl)) $$ R0
  iintro %w0 %hw0 R0
  obtain ⟨p1, rfl⟩ := hw0
  try iapply (wp_ret_bind c)
  try sl_exec
  iapply (wp_wait_slot m K c 12 (by decide) N 10 (by decide) rfl credit_rs1 (amount_N _ (by decide)) (ownsSat (c : Thread nD τ) rs1 fullShare (fun X => ∃ p, X = partOf m (fwd 2 c) 2 p)) rfl) $$ [C12 HO S12]
  · isplitr; · iexact HW
    isplitl [C12]; · iexact C12
    isplitl [HO]; · first | iexact HO | (iexists _; iexact HO)
    iexact S12
  iintro ⟨HO, Y12, R1⟩
  try iapply (wp_ret_bind c)
  try sl_exec
  iapply (wp_load_slot c (fun _ => rfl)) $$ R1
  iintro %w1 %hw1 R1
  obtain ⟨p2, rfl⟩ := hw1
  try iapply (wp_ret_bind c)
  try sl_exec
  iapply (wp_wait_slot m K c 13 (by decide) Nh 10 (by decide) rfl credit_rs2 (amount_Nh _ (by decide)) (ownsSat (c : Thread nD τ) rs2 fullShare (fun X => ∃ p, X = partTop m (fwd 3 c) p)) rfl) $$ [C13 HO S13]
  · isplitr; · iexact HW
    isplitl [C13]; · iexact C13
    isplitl [HO]; · first | iexact HO | (iexists _; iexact HO)
    iexact S13
  iintro ⟨HO, Y13, R2⟩
  try iapply (wp_ret_bind c)
  try sl_exec
  iapply (wp_wait_slot m K c 14 (by decide) Nh 10 (by decide) rfl credit_rs3 (amount_Nh _ (by decide)) (ownsSat (c : Thread nD τ) rs3 fullShare (fun X => ∃ p, X = partBot m (fwd 3 c) p)) rfl) $$ [C14 HO S14]
  · isplitr; · iexact HW
    isplitl [C14]; · iexact C14
    isplitl [HO]; · first | iexact HO | (iexists _; iexact HO)
    iexact S14
  iintro ⟨HO, Y14, R3⟩
  try iapply (wp_ret_bind c)
  try sl_exec
  ihave RR := (rs_whole c _ _ _ _) $$ [R0 R1 R2 R3]
  · isplitl [R0]; · iexact R0
    isplitl [R1]; · iexact R1
    isplitl [R2]; · iexact R2
    iexact R3
  icases RR with ⟨R0, R1, RF⟩
  iapply (wp_load_slot c (fun _ => rfl)) $$ RF
  iintro %w2 %hw2 RF
  obtain ⟨_, _, ⟨p3, rfl⟩, ⟨p4, rfl⟩, rfl⟩ := hw2
  try iapply (wp_ret_bind c)
  try sl_exec
  iapply (wp_wait_slot m K c 1 (by decide) N 10 (by decide) rfl credit_xs0 (amount_N _ (by decide)) (heldAt c xs0 q1 (xSent m c)) rfl) $$ [C1 HO S1]
  · isplitr; · iexact HW
    isplitl [C1]; · iexact C1
    isplitl [HO]; · first | iexact HO | (iexists _; iexact HO)
    iexact S1
  iintro ⟨HO, Y1, X0a⟩
  try iapply (wp_ret_bind c)
  try sl_exec
  iapply (wp_wait_slot m K c 2 (by decide) N 10 (by decide) rfl credit_xs0 (amount_N _ (by decide)) (heldAt c xs0 q2 (xSent m c)) rfl) $$ [C2 HO S2]
  · isplitr; · iexact HW
    isplitl [C2]; · iexact C2
    isplitl [HO]; · first | iexact HO | (iexists _; iexact HO)
    iexact S2
  iintro ⟨HO, Y2, X0b⟩
  try iapply (wp_ret_bind c)
  try sl_exec
  iapply (wp_wait_slot m K c 3 (by decide) N 10 (by decide) rfl credit_xs0 (amount_N _ (by decide)) (heldAt c xs0 q3 (xSent m c)) rfl) $$ [C3 HO S3]
  · isplitr; · iexact HW
    isplitl [C3]; · iexact C3
    isplitl [HO]; · first | iexact HO | (iexists _; iexact HO)
    iexact S3
  iintro ⟨HO, Y3, X0c⟩
  try iapply (wp_ret_bind c)
  try sl_exec
  iapply (wp_wait_slot m K c 7 (by decide) N 10 (by decide) rfl credit_ps1 (amount_N _ (by decide)) (heldAny c ps1) rfl) $$ [C7 HO S7]
  · isplitr; · iexact HW
    isplitl [C7]; · iexact C7
    isplitl [HO]; · first | iexact HO | (iexists _; iexact HO)
    iexact S7
  iintro ⟨HO, Y7, P1⟩
  try iapply (wp_ret_bind c)
  try sl_exec
  iapply (wp_wait_slot m K c 8 (by decide) N 10 (by decide) rfl credit_ps2 (amount_N _ (by decide)) (heldAny c ps2) rfl) $$ [C8 HO S8]
  · isplitr; · iexact HW
    isplitl [C8]; · iexact C8
    isplitl [HO]; · first | iexact HO | (iexists _; iexact HO)
    iexact S8
  iintro ⟨HO, Y8, P2⟩
  try iapply (wp_ret_bind c)
  try sl_exec
  iapply (wp_wait_slot m K c 9 (by decide) Nh 10 (by decide) rfl credit_ps3 (amount_Nh _ (by decide)) (heldAny c ps3) rfl) $$ [C9 HO S9]
  · isplitr; · iexact HW
    isplitl [C9]; · iexact C9
    isplitl [HO]; · first | iexact HO | (iexists _; iexact HO)
    iexact S9
  iintro ⟨HO, Y9, P3⟩
  try iapply (wp_ret_bind c)
  try sl_exec
  iapply (wp_wait_slot m K c 10 (by decide) Nh 10 (by decide) rfl credit_ps4 (amount_Nh _ (by decide)) (heldAny c ps4) rfl) $$ [C10 HO S10]
  · isplitr; · iexact HW
    isplitl [C10]; · iexact C10
    isplitl [HO]; · first | iexact HO | (iexists _; iexact HO)
    iexact S10
  iintro ⟨HO, Y10, P4⟩
  try iapply (wp_ret_bind c)
  try sl_exec
  iapply (wp_done c)
  unfold ends bufs argsAt zeros cellsDone
  isplitl [HO]; · iexact HO
  isplitl [H0 H1 H2 H3 H4]
  · iexists _, _, _, _, _
    isplitl [H0]; · iexact H0
    isplitl [H1]; · iexact H1
    isplitl [H2]; · iexact H2
    isplitl [H3]; · iexact H3
    iexact H4
  isplitl [Hg]
  · iexists ![(f2, vM.view.junk), p1, p2, p3, p4]
    have hg : (Memref.whole cc0_stg0_0).view.writes (Elt F) g [⟨Rect.unit ![0, 0, 0] S1x256x1024.size inb_S1x256x1024_S1x256x1024_0_0_0,
        k0_pay80 (body_run.sl.r_66 m c f2 p1 p2) (stack128 (partTop m (fwd 3 c) p3) (partBot m (fwd 3 c) p4))⟩]
        = resultOf m c ![(f2, vM.view.junk), p1, p2, p3, p4] :=
      Memref.write_access_unit_zero_univ (Elt F) cc0_stg0_0 (off := ![0, 0, 0]) (by funext a; fin_cases a <;> rfl) inb_S1x256x1024_S1x256x1024_0_0_0 g _
    rw [← hg]
    iexact Hg
  isplitl [A0 A1 A2 A3 A4]
  · isplitl [A0]; · iexact A0
    isplitl [A1]; · iexact A1
    isplitl [A2]; · iexact A2
    isplitl [A3]; · iexact A3
    iexact A4
  isplitl [Z1 Z2 Z3 Z4 Z5]
  · isplitl [Z1]; · iexact Z1
    isplitl [Z2]; · iexact Z2
    isplitl [Z3]; · iexact Z3
    isplitl [Z4]; · iexact Z4
    iexact Z5
  isplitl [Y0 Y1 Y2 Y3 Y4 Y5 Y6 Y7 Y8 Y9 Y10 Y11 Y12 Y13 Y14]
  · isplitl [Y0]; · iexact Y0
    isplitl [Y1 Y2 Y3]
    · isplitl [Y1]; · iexact Y1
      isplitl [Y2]; · iexact Y2
      iexact Y3
    isplitl [Y4 Y5 Y6]
    · isplitl [Y4]; · iexact Y4
      isplitl [Y5]; · iexact Y5
      iexact Y6
    isplitl [Y7 Y8 Y9 Y10]
    · isplitl [Y7]; · iexact Y7
      isplitl [Y8]; · iexact Y8
      isplitl [Y9]; · iexact Y9
      iexact Y10
    isplitl [Y11]; · iexact Y11
    isplitl [Y12]; · iexact Y12
    isplitl [Y13]; · iexact Y13
    iexact Y14
  isplitl [X0 X0a X0b X0c X1 X2 X3]
  · iapply (xs_join c)
    isplitl [X0 X0a X0b X0c]
    · iapply (ownsSat_mono (c : Thread nD τ) xs0 fullShare (fun _ _ => trivial))
      iapply (quarters c xs0 _).2
      isplitl [X0 X0a]
      · isplitl [X0]; · iexact X0
        iexact X0a
      isplitl [X0b]; · iexact X0b
      iexact X0c
    isplitl [X1]; · iapply (ownsSat_mono (c : Thread nD τ) xs1 fullShare (fun _ _ => trivial)) $$ X1
    isplitl [X2]; · iapply (ownsSat_mono (c : Thread nD τ) xs2 fullShare (fun _ _ => trivial)) $$ X2
    iapply (ownsSat_mono (c : Thread nD τ) xs3 fullShare (fun _ _ => trivial)) $$ X3
  isplitl [P0 P1 P2 P3 P4]
  · iapply (ps_join c)
    isplitl [P0]; · iapply (ownsSat_mono (c : Thread nD τ) ps0 fullShare (fun _ _ => trivial)) $$ P0
    isplitl [P1]; · iexact P1
    isplitl [P2]; · iexact P2
    isplitl [P3]; · iexact P3
    iexact P4
  iapply (rs_join c)
  isplitl [R0]; · iapply (ownsSat_mono (c : Thread nD τ) rs0 fullShare (fun _ _ => trivial)) $$ R0
  isplitl [R1]; · iapply (ownsSat_mono (c : Thread nD τ) rs1 fullShare (fun _ _ => trivial)) $$ R1
  iapply (ownsSat_mono (c : Thread nD τ) rsF fullShare (fun _ _ => trivial)) $$ RF

end Cert.Swa

end
-- ==== Proof.Setup.lean ====
/-
# Setting the protocol up

The fifteen cells of every device are opened at once, their duty tokens are dealt to the devices that pay them, and the
credit each device starts with is read off what the others owe it.
-/
module

public import proofs.«01_k».proof.Proof.Body

@[expose] public section

noncomputable section

namespace Cert.Swa

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

theorem cellAt_inj {a b : Dev nD} {i j : Fin 15} : Iff (cellAt a i = cellAt b j) (a = b ∧ i = j) :=
  ⟨fun h => ⟨Fin.ext (congrArg (fun g : GSem nD τ sig => g.1.1.val) h), ksem_inj (congrArg Prod.snd h)⟩, fun h => by rw [h.1, h.2]⟩
theorem kcell_injective : Function.Injective (kcell : Dev nD × Fin 15 → GSem nD τ sig) := fun ⟨_, _⟩ ⟨_, _⟩ h =>
  Prod.ext (cellAt_inj.mp h).1 (cellAt_inj.mp h).2

/-! ## Tokens -/

/-- The cell of a device's `j`-th duty token, as made: three for the barrier, one for every other cell. -/
abbrev tcell : Fin 17 → Fin 15
  | 0 => 0 | 1 => 0 | 2 => 0 | 3 => 1 | 4 => 2 | 5 => 3 | 6 => 4 | 7 => 5 | 8 => 6 | 9 => 7 | 10 => 8 | 11 => 9 | 12 => 10
  | 13 => 11 | 14 => 12 | 15 => 13 | _ => 14
/-- The duty it is for. -/
abbrev tduty : Fin 17 → Fin 3
  | 1 => 1 | 2 => 2 | _ => 0
/-- The device whose token `c` pays with. -/
abbrev payee : Fin 17 → Dev nD → Dev nD
  | 0 => fwd 1 | 1 => fwd 2 | 2 => fwd 3 | 6 => fwd 1 | 7 => fwd 2 | 8 => fwd 3 | 13 => back 1 | 14 => back 2 | 15 => back 3 | 16 => back 3
  | _ => id
/-- The device that pays with `c`'s token. -/
abbrev payer : Fin 17 → Dev nD → Dev nD
  | 0 => back 1 | 1 => back 2 | 2 => back 3 | 6 => back 1 | 7 => back 2 | 8 => back 3 | 13 => fwd 1 | 14 => fwd 2 | 15 => fwd 3 | 16 => fwd 3
  | _ => id
/-- Tokens as held against tokens as made. -/
def deal : Dev nD × Fin 17 ≃ Dev nD × Fin 17 where
  toFun x := (payee x.2 x.1, x.2)
  invFun x := (payer x.2 x.1, x.2)
  left_inv := by decide +kernel
  right_inv := by decide +kernel

abbrev tokOf (cj : Dev nD × Fin 17) : GSem nD τ sig × ℕ × Fin 3 := (cellAt cj.1 (tcell cj.2), 0, tduty cj.2)
theorem tduty_inj : ∀ j j' : Fin 17, tcell j = tcell j' → tduty j = tduty j' → j = j' := by decide +kernel
theorem tokOf_injective : Function.Injective tokOf := fun ⟨_, j⟩ ⟨_, j'⟩ h =>
  have h1 := cellAt_inj.mp (congrArg Prod.fst h)
  Prod.ext h1.1 (tduty_inj j j' h1.2 (congrArg (fun x : GSem nD τ sig × ℕ × Fin 3 => x.2.2) h))

def ringCells : Finset (GSem nD τ sig) := Finset.univ.map ⟨kcell, kcell_injective⟩
def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, 1))

/-- The fifteen, one by one. -/
theorem fifteen (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
/-- The seventeen, one by one. -/
theorem seventeen (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

/-- A device's tokens as made. -/
def toks (c : Dev nD) : sProp 𝕄 := bigSep Finset.univ fun j : Fin 17 => dutyTok ER (cellAt c (tcell j)) 0 (tduty j)

/-- The seventeen tokens a device pays with. -/
theorem tokens_of (c : Dev nD) : (bigSep Finset.univ fun j : Fin 17 => dutyTok ER (cellAt (payee j c) (tcell j)) 0 (tduty j) : sProp 𝕄) ⊢ tokens c := by
  rw [seventeen]
  unfold tokens
  iintro ⟨H0, H1, H2, H3, H4, H5, H6, H7, H8, H9, H10, H11, H12, H13, H14, H15, H16⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6 H7 H8]
  · isplitl [H6]; · iexact H6
    isplitl [H7]; · iexact H7
    iexact H8
  isplitl [H9 H10 H11 H12]
  · isplitl [H9]; · iexact H9
    isplitl [H10]; · iexact H10
    isplitl [H11]; · iexact H11
    iexact H12
  isplitl [H13]; · iexact H13
  isplitl [H14]; · iexact H14
  isplitl [H15]; · iexact H15
  iexact H16

/-- Every device's tokens dealt to the devices that pay. -/
theorem toks_around : (bigSep Finset.univ fun c : Dev nD => (toks c : sProp 𝕄)) ⊢ bigSep Finset.univ fun c : Dev nD => tokens c := by
  unfold toks
  rw [← bigSep_univ_prod (fun cj : Dev nD × Fin 17 => (dutyTok ER (cellAt cj.1 (tcell cj.2)) 0 (tduty cj.2) : sProp 𝕄)),
    bigSep_univ_equiv deal, bigSep_univ_prod]
  exact bigSep_mono fun c _ => tokens_of c

/-- What the launch gives a device to begin with. -/
def G (c : Dev nD) : sProp 𝕄 :=
  iprop((bigSep Finset.univ fun k : Fin 15 => roundState ER (Rd m) (cellAt c k) 0)
    ∗ (bigSep Finset.univ fun k : Fin 15 => iprop(atPos ER (cellAt c k) 0 ∅ 0 ∗ reached ER (cellAt c k) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (cellAt c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Semaphores -/

/-- The kernel's own semaphores: all but the staging one. -/
abbrev osem : Fin 19 → SemLoc sig := fun i => .dma ⟨i.val + 1, by have := i.isLt; show _ < 20; omega⟩
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(zero c ⟨1, by decide⟩ ∗ zero c ⟨2, by decide⟩ ∗ zero c ⟨3, by decide⟩ ∗ zero c ⟨4, by decide⟩ ∗ zero c ⟨5, by decide⟩
      ∗ semVal (cellAt c 1) 0 ∗ semVal (cellAt c 2) 0 ∗ semVal (cellAt c 3) 0 ∗ semVal (cellAt c 4) 0 ∗ semVal (cellAt c 5) 0
      ∗ semVal (cellAt c 6) 0 ∗ semVal (cellAt c 7) 0 ∗ semVal (cellAt c 8) 0 ∗ semVal (cellAt c 9) 0 ∗ semVal (cellAt c 10) 0
      ∗ semVal (cellAt c 11) 0 ∗ semVal (cellAt c 12) 0 ∗ semVal (cellAt c 13) 0 ∗ semVal (cellAt c 14) 0) := by
  rw [Pipeline.ownSems0_eq_of_list c osem [0, 1, 2, 3, 4, 5, 6, 7, 8, 9, 10, 11, 12, 13, 14, 15, 16, 17, 18] (by decide) (by decide)]; rfl

theorem unscopedSems0_eq (c : Dev nD) : (unscopedSems0 c : sProp 𝕄) = semVal (cellAt c 0) 0 := by
  unfold unscopedSems0; rw [bigSep_eq_bigSepL_of_eq [bsem] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop(zeros c ∗ (bigSep Finset.univ fun k : Fin 15 => semVal (cellAt c k) 0 : sProp 𝕄)) := by
  rw [ownSems0_eq, unscopedSems0_eq, fifteen]
  unfold zeros
  iintro ⟨⟨Z1, Z2, Z3, Z4, Z5, H⟩, HB⟩
  isplitl [Z1 Z2 Z3 Z4 Z5]
  · isplitl [Z1]; · iexact Z1
    isplitl [Z2]; · iexact Z2
    isplitl [Z3]; · iexact Z3
    isplitl [Z4]; · iexact Z4
    iexact Z5
  isplitl [HB]; · iexact HB
  iexact H

/-- One device's cells opened. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cellAt c k)))
          ∗ (bigSep Finset.univ fun k => iprop(atPos ER (cellAt c k) 0 ∅ 0 ∗ reached ER (cellAt c k) 0)) ∗ toks c ∗ zeros c) := by
  unfold G
  iintro ⟨Hos, Hus, Hst, Hat, Htok⟩
  ihave Hv := (sems0_eq (F := F) c) $$ [Hos Hus]
  · isplitl [Hos] <;> iassumption
  icases Hv with ⟨Hz, Hv⟩
  imod (show iprop((bigSep Finset.univ fun k : Fin 15 => semVal (cellAt c k) 0) ∗ bigSep Finset.univ fun k : Fin 15 => roundState ER (Rd m) (cellAt c k) 0)
      ⊢ (|={Set.univ}=> bigSep Finset.univ fun k => iprop(∃ κ : ℕ, cellInv ER (Rd m) κ (cellAt c k)) : sProp 𝕄) from by
        rw [← bigSep_sep']
        exact (bigSep_mono fun k _ => (Rounds.body_intro ER (Rd m) (cellAt c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

/-- The shared records without the levels. -/
def records (K : Dev nD × Fin 15 → ℕ) : sProp 𝕄 :=
  iprop((bigSep Finset.univ fun ck : Dev nD × Fin 15 => cellInv ER (Rd m) (K ck) (kcell ck))
    ∗ bigSep Finset.univ fun ck : Dev nD × Fin 15 => reached ER (kcell ck) 0)

instance records_persistent (K : Dev nD × Fin 15 → ℕ) : BI.Persistent (records m K) := by unfold records; infer_instance

/-- What stays with one device. -/
def linear (c : Dev nD) : sProp 𝕄 :=
  iprop((bigSep Finset.univ fun k : Fin 15 => atPos ER (cellAt c k) 0 ∅ 0) ∗ tokens c ∗ zeros c)

/-- What a device has after the opening. -/
def G' (c : Dev nD) : sProp 𝕄 := iprop(∃ K, records m K ∗ linear c)

theorem with_persistent {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (cellAt c k)))
          ∗ (bigSep Finset.univ fun k => iprop(atPos ER (cellAt c k) 0 ∅ 0 ∗ reached ER (cellAt c k) 0)) ∗ toks c ∗ zeros c) : sProp 𝕄)
      ⊢ bigSep Finset.univ (G' m) := by
  rw [bigSep_sep', bigSep_sep', bigSep_sep', ← bigSep_univ_prod (fun ck : Dev nD × Fin 15 => iprop(∃ κ : ℕ, cellInv ER (Rd m) κ (kcell ck))),
    bigSep_congr (s := Finset.univ) (fun (c : Dev nD) _ => bigSep_sep' Finset.univ (fun k : Fin 15 => (atPos ER (cellAt c k) 0 ∅ 0 : sProp 𝕄)) (fun k => reached ER (cellAt c k) 0)),
    bigSep_sep', ← bigSep_univ_prod (fun ck : Dev nD × Fin 15 => (reached ER (kcell ck) 0 : sProp 𝕄))]
  iintro ⟨HI, ⟨Hat, #HR⟩, Htok, Hz⟩
  ihave HK := (BI.bigSep_exists_pi Finset.univ (fun (ck : Dev nD × Fin 15) (κ : ℕ) => (cellInv ER (Rd m) κ (kcell ck) : sProp 𝕄))) $$ HI
  icases HK with ⟨%K, #HI⟩
  ihave Htk := (toks_around (F := F)) $$ Htok
  iapply (with_persistent (R := records m K) (Φ := fun c => linear c) fun c _ => show _ ⊢ G' m c from by
    unfold G'; iintro ⟨HR, HL⟩; iexists K; isplitl [HR] <;> iassumption)
  isplitr
  · unfold records; isplitl; · iexact HI
    iexact HR
  · unfold linear; simp only [bigSep_sep']
    isplitl [Hat]; · iexact Hat
    isplitl [Htk]; · iexact Htk
    iexact Hz

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credit -/

/-- What `d` owes to one cell, entry by entry. -/
theorem owed_at (d c : Dev nD) (i : Fin 15) : owed d 0 (cellAt c i) ()
    = (if c = back 3 d ∧ i = 14 then Nh else 0) + (if c = back 3 d ∧ i = 13 then Nh else 0) + (if c = back 2 d ∧ i = 12 then N else 0)
      + (if c = back 1 d ∧ i = 11 then N else 0) + (if c = fwd 3 d ∧ i = 6 then N else 0) + (if c = fwd 2 d ∧ i = 5 then N else 0)
      + (if c = fwd 1 d ∧ i = 4 then N else 0) + (if c = fwd 3 d ∧ i = 0 then 1 else 0) + (if c = fwd 2 d ∧ i = 0 then 1 else 0)
      + (if c = fwd 1 d ∧ i = 0 then 1 else 0) := by
  have e (a : Dev nD) (j : Fin 15) (n : ℕ) : tallyAt (cellAt a j) () n (cellAt c i) () = if c = a ∧ i = j then n else 0 := by
    rw [tallyAt_apply]
    exact if_congr ⟨fun h => cellAt_inj.mp h.1, fun h => ⟨cellAt_inj.mpr h, rfl⟩⟩ rfl rfl
  unfold owed debts
  simp only [List.drop_zero, owesOf, Pi.add_apply, Finsupp.add_apply, Pi.zero_apply, Finsupp.zero_apply, e, Nat.zero_add]

/-- What the launch puts on a cell is the sum of what is owed to it. -/
theorem launch_at (c : Dev nD) (i : Fin 15) (n : ℕ) (h : ∑ d, owed d 0 (cellAt c i) () = n) :
    tallyOn (cellAt c i) (launchCredit (Pipeline.owing fun d => owed d 0) 0 (cellAt c i)) = (tallyAt (cellAt c i) () n : CellTallies nD τ sig Unit) := by
  unfold tallyAt; refine congrArg _ (Finsupp.ext fun u => ?_); cases u
  rw [Pipeline.launchCredit_owing, Finsupp.single_eq_same, h]

/-- A sum over the devices that counts one of them. -/
theorem sum_one (σ : Dev nD → Dev nD) (hσ : Function.Bijective σ) (c : Dev nD) (n : ℕ) : ∑ d, (if c = σ d then n else 0) = n := by
  rw [hσ.sum_comp (fun e => if c = e then n else 0), Finset.sum_ite_eq, if_pos (Finset.mem_univ _)]
theorem fwd_bij (k : Fin 4) : Function.Bijective (fwd k) := by revert k; decide +kernel
theorem back_bij (k : Fin 4) : Function.Bijective (back k) := by revert k; decide +kernel

theorem sum_owed (c : Dev nD) : ∀ i : Fin 15, ∑ d, owed d 0 (cellAt c i) ()
    = (match i with | 0 => 3 | 4 => N | 5 => N | 6 => N | 11 => N | 12 => N | 13 => Nh | 14 => Nh | _ => 0 : ℕ) := fun i => by
  have hf (k : Fin 4) (n : ℕ) := sum_one (fwd k) (fwd_bij k) c n
  have hb (k : Fin 4) (n : ℕ) := sum_one (back k) (back_bij k) c n
  simp only [owed_at]
  generalize N = a
  generalize Nh = b
  fin_cases i <;> simp only [Fin.zero_eta, Fin.mk_one, Fin.reduceFinMk, Fin.reduceEq, and_true, and_false, if_false, Finset.sum_add_distrib, hf, hb, Finset.sum_const_zero, Nat.add_zero, Nat.zero_add, Fin.isValue, zero_ne_one, one_ne_zero] <;> rfl

/-- The launch's credit at a device's fifteen cells. -/
theorem cred_cells (c : Dev nD) : (Pipeline.launchCred (fun d => owed d 0) c : sProp 𝕄)
    ⊢ bigSep Finset.univ fun i : Fin 15 => cred (tallyAt (cellAt c i) () (∑ d, owed d 0 (cellAt c i) ())) := by
  unfold Pipeline.launchCred
  refine (BI.bigSep_subset (Finset.subset_univ (Finset.univ.map ⟨ksem, ksem_inj⟩))).trans ?_
  rw [BI.bigSep_map]
  exact BI.bigSep_mono fun i _ => Entails.of_eq (congrArg cred (launch_at c i _ rfl))

/-- The credit a device's waits take. -/
theorem creds (c : Dev nD) : (Pipeline.launchCred (fun d => owed d 0) c : sProp 𝕄) ⊢ credits c := by
  have e := cred_cells (F := F) c
  rw [fifteen] at e
  simp only [sum_owed] at e
  unfold credits
  iintro H
  ihave H := e $$ H
  icases H with ⟨H0, -, -, -, H4, H5, H6, -, -, -, -, H11, H12, H13, H14⟩
  isplitl [H0]; · iexact H0
  isplitl [H4 H5 H6]
  · isplitl [H4]; · iexact H4
    isplitl [H5]; · iexact H5
    iexact H6
  isplitl [H11]; · iexact H11
  isplitl [H12]; · iexact H12
  isplitl [H13]; · iexact H13
  iexact H14

end Cert.Swa

end
-- ==== Proof.Launch.lean ====
/-
# The whole program's run

The launch: from any memory with every semaphore at zero, every run of the program ends, with the operands as they were,
every semaphore at zero and each device's block of the result at a value of the form `resultOf`.
-/
module

public import proofs.«01_k».proof.Proof.Setup
public import Idealize.ShloMosaic.Lib.Pipeline.ArrRel
public import Idealize.ShloMosaic.Lib.Pipeline.CollectiveSegs

@[expose] public section

noncomputable section

namespace Cert.Swa

open Cert.KernelIdeal Cert.KernelIdeal.Gen
open Idealize.ShloMosaic
open Idealize.ShloMosaic.TcCoe
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- What a device starts the kernel with, its buffers apart. -/
def start (c : Dev nD) : sProp 𝕄 :=
  iprop((∃ K, world m K) ∗ tokens c ∗ seats c ∗ credits c ∗ argsAt m c ∗ zeros c)
/-- The kernel's buffers at any contents. -/
def scratch (c : Dev nD) : sProp 𝕄 :=
  iprop((∃ f0 f1 f2 f3 f4, bufs c f0 f1 f2 f3 f4) ∗ heldAny c xM ∗ heldAny c pM ∗ heldAny c rM)

def Φ₀ (c : Dev nD) : sProp 𝕄 := iprop(start m c ∗ scratch c)
def Φ₁ (c : Dev nD) : sProp 𝕄 := iprop(scratch c ∗ argsAt m c ∗ zeros c ∗ cellsDone c)

/-- The staged block ends at a value of the form `resultOf`. -/
def rdats (_ : Fin 1) (c : Dev nD) : RDat τ (Elt F) Unit ℕ UU ℕ cfg0 c where
  A w := m ((cfg0.win w).arr.view.loc (c : Thread nD τ))
  after w _ _ X := match w with
    | ⟨0, _⟩ => ∃ p, X = resultOf m c p
  Φ t := match t with
    | ⟨0, _⟩ => Φ₀ m c
    | ⟨_ + 1, _⟩ => Φ₁ m c
  q _ := fullShare
  owed t := match t with
    | ⟨0, _⟩ => owed c 0
    | ⟨_ + 1, _⟩ => owed c 10

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What is left at the end, gathered. -/
theorem ends_done (c : Dev nD) : ends m c ⊢ iprop(Φ₁ m c ∗ owesAny c 10 ∗ ∃ p, ptM c (Memref.whole cc0_stg0_0) (resultOf m c p)) := by
  unfold ends Φ₁ scratch
  iintro ⟨HO, HB, Hg, HA, HZ, HD, HX⟩
  isplitl [HB HX HA HZ HD]
  · isplitl [HB HX]
    · isplitl [HB] <;> iassumption
    isplitl [HA]; · iexact HA
    isplitl [HZ]; · iexact HZ
    iexact HD
  isplitl [HO]; · iexact HO
  iexact Hg

/-- The run with its buffers gathered. -/
theorem body_all (c : Dev nD) (g : cc0_stg0_0.ty.Contents (Elt F)) :
    iprop(Φ₀ m c ∗ owesAny c 0 ∗ ptM c (Memref.whole cc0_stg0_0) g)
    ⊢ wp frame (wpE (defs₀ (F := F)) 𝒱₀ (c : Thread nD τ) none) Set.univ (bodyAt0 t0_0) (fun _ =>
        iprop(Φ₁ m c ∗ owesAny c 10 ∗ ∃ p, ptM c (Memref.whole cc0_stg0_0) (resultOf m c p))) := by
  refine BIBase.Entails.trans ?_ (wp_mono _ _ _ (Q := fun _ => ends m c) fun _ => ends_done m c)
  unfold Φ₀ start scratch
  iintro ⟨⟨⟨⟨%K, HW⟩, HT, HS, HC, HA, HZ⟩, ⟨%f0, %f1, %f2, %f3, %f4, HB⟩, HX, HP, HR⟩, HO, Hg⟩
  ihave HX := (xs_split c) $$ HX
  ihave HP := (ps_split c) $$ HP
  ihave HR := (rs_split c) $$ HR
  iapply (body_run m K c f0 f1 f2 f3 f4 g)
  isplitl [HW]; · iexact HW
  isplitl [HO]; · iexact HO
  isplitl [HB]; · iexact HB
  isplitl [Hg]; · iexact Hg
  isplitl [HA]; · iexact HA
  isplitl [HZ]; · iexact HZ
  isplitl [HX HP HR]
  · unfold places
    isplitl [HX]; · iexact HX
    isplitl [HP]; · iexact HP
    iexact HR
  isplitl [HT]; · iexact HT
  isplitl [HS]; · iexact HS
  iexact HC

theorem body_obligation (c : Dev nD) : (rdats m 0 c).BodyObligation (defs₀ (F := F)) 𝒱₀ () Set.univ := fun t Y _ => by
  rw [fin_N0 t]
  rw [bigSep_W0]
  simp only [bigSep_W0]
  show iprop(Φ₀ m c ∗ (rdats m 0 c).owesAt () t0_0.castSucc ∗ owns (c : Thread nD τ) (Memref.whole cc0_stg0_0) fullShare (Y 0))
    ⊢ wp frame (wpE (defs₀ (F := F)) 𝒱₀ (c : Thread nD τ) none) Set.univ (bodyAt0 t0_0) (fun _ =>
        iprop(Φ₁ m c ∗ (rdats m 0 c).owesAt () t0_0.succ ∗ ∃ X, ⌜∃ p, X = resultOf m c p⌝ ∗ owns (c : Thread nD τ) (Memref.whole cc0_stg0_0) fullShare X))
  simp only [owns_whole_eq]
  refine BIBase.Entails.trans ?_ (wp_mono _ _ _ (Q := fun _ => iprop(Φ₁ m c ∗ owesAny c 10 ∗ ∃ p, ptM c (Memref.whole cc0_stg0_0) (resultOf m c p))) fun _ => ?_)
  · iintro ⟨HΦ, Ho, ⟨%f, %hf, Hg⟩⟩
    unfold RDat.owesAt Pipeline.owesWithin
    icases Ho with ⟨%W, %hW, HO⟩
    iapply (body_all m c f)
    isplitl [HΦ]; · iexact HΦ
    isplitl [HO]; · iexists W; iexact HO
    iexact Hg
  · change (_ : sProp 𝕄) ⊢ _
    unfold RDat.owesAt Pipeline.owesWithin
    iintro ⟨H1, ⟨%W', HO⟩, ⟨%p, Hg⟩⟩
    isplitl [H1]; · iexact H1
    isplitl [HO]
    · iexists W'
      isplitr; · ipureintro; exact fun _ _ => Or.inl trivial
      iexact HO
    iexists (resultOf m c p)
    isplitr; · ipureintro; exact ⟨p, rfl⟩
    iexists (resultOf m c p)
    isplitr; · ipureintro; rfl
    iexact Hg

/-! ## The launch's side conditions -/

theorem share_eq (c : Dev nD) (w : Fin cfg0.W) : (rdats m 0 c).share w = fullShare := by unfold RDat.share; split <;> rfl

theorem seats_of (c : Dev nD) : (bigSep Finset.univ fun k : Fin 15 => atPos ER (cellAt c k) 0 ∅ 0 : sProp 𝕄) ⊢ seats c := by
  rw [fifteen]
  unfold seats
  iintro ⟨H0, H1, H2, H3, H4, H5, H6, H7, H8, H9, H10, H11, H12, H13, H14⟩
  isplitl [H0]; · iexact H0
  isplitl [H1 H2 H3]
  · isplitl [H1]; · iexact H1
    isplitl [H2]; · iexact H2
    iexact H3
  isplitl [H4 H5 H6]
  · isplitl [H4]; · iexact H4
    isplitl [H5]; · iexact H5
    iexact H6
  isplitl [H7 H8 H9 H10]
  · isplitl [H7]; · iexact H7
    isplitl [H8]; · iexact H8
    isplitl [H9]; · iexact H9
    iexact H10
  isplitl [H11]; · iexact H11
  isplitl [H12]; · iexact H12
  isplitl [H13]; · iexact H13
  iexact H14

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(start m c ∗ emp) := by
  have hu : (Pipeline.unscopedRestP (Ix := Unit) (Name := ℕ) (U := UU) (Lvl := ℕ) Pipeline.Prefetch.none cfg0.spec c (fun b => m ((c : Thread nD τ).loc b)) : sProp 𝕄)
      = argsAt m c := by
    unfold argsAt
    rw [Pipeline.unscopedRestP_none]
    exact unscopedRest0_eq c _
  rw [hu]
  unfold G' records linear
  iintro ⟨HA, Hlev, Hcr, -, ⟨%K, ⟨HI, HR⟩, Hat, HT, HZ⟩⟩
  ihave HC := (creds (F := F) c) $$ Hcr
  ihave HS := (seats_of (F := F) c) $$ Hat
  imodintro
  unfold start
  isplitl
  · isplitl [HI HR Hlev]
    · iexists K
      unfold world
      isplitl [HI]; · iexact HI
      isplitl [HR]; · iexact HR
      iexact Hlev
    isplitl [HT]; · iexact HT
    isplitl [HS]; · iexact HS
    isplitl [HC]; · iexact HC
    isplitl [HA]; · iexact HA
    iexact HZ
  · iempintro

theorem any_whole (c : Dev nD) {sh : Shape} (M : Memref sig .tc .vmem sh .bf16) (h : M.view.set = Finset.univ) :
    (heldAny c M : sProp 𝕄) = iprop(∃ f, M.view.loc (c : Thread nD τ) ↦{fullShare} f) := by
  unfold heldAny ownsSat
  rw [h]
  refine BI.equiv_iff.mp ⟨?_, ?_⟩
  · change (_ : sProp 𝕄) ⊢ _; iintro ⟨%f, -, H⟩; iexists f; iexact H
  · change (_ : sProp 𝕄) ⊢ _; iintro ⟨%f, H⟩; iexists f; isplitr; · ipureintro; trivial
    iexact H

theorem scratch_eq (c : Dev nD) : (Pipeline.scopedRest cfg0.spec c : sProp 𝕄) = scratch c := by
  rw [scopedRest0_eq]
  unfold scratch bufs
  rw [any_whole c xM (View.set_whole _), any_whole c pM (View.set_whole _), any_whole c rM (View.set_whole _)]
  refine BI.equiv_iff.mp ⟨?_, ?_⟩
  · change (_ : sProp 𝕄) ⊢ _
    iintro ⟨⟨%f0, H0⟩, ⟨%f1, H1⟩, ⟨%f2, H2⟩, ⟨%f3, H3⟩, ⟨%f4, H4⟩, H5, H6, H7⟩
    isplitl [H0 H1 H2 H3 H4]
    · iexists f0; iexists f1; iexists f2; iexists f3; iexists f4
      isplitl [H0]; · iexact H0
      isplitl [H1]; · iexact H1
      isplitl [H2]; · iexact H2
      isplitl [H3]; · iexact H3
      iexact H4
    isplitl [H5]; · iexact H5
    isplitl [H6]; · iexact H6
    iexact H7
  · change (_ : sProp 𝕄) ⊢ _
    iintro ⟨⟨%f0, %f1, %f2, %f3, %f4, H0, H1, H2, H3, H4⟩, H5, H6, H7⟩
    isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexact H5
    isplitl [H6]; · iexact H6
    iexact H7

theorem phi0_intro (c : Dev nD) :
    iprop(start m c ∗ Pipeline.prefHeld Pipeline.Prefetch.none c (fun _ => fullShare.right) (fun k => k.elim0) ∗ Pipeline.scopedRest cfg0.spec c)
      ⊢ (rdats m 0 c).Φ 0 := by
  rw [show (rdats m 0 c).Φ 0 = Φ₀ m c from rfl, scratch_eq]
  unfold Φ₀
  iintro ⟨Hs, -, Hr⟩
  isplitl [Hs] <;> iassumption

theorem phi1_exit (c : Dev nD) :
    (rdats m 0 c).Φ (Fin.last cfg0.N) ⊢ iprop(iprop(argsAt m c ∗ unscopedSems0 c) ∗ Pipeline.ownSems0 osem c ∗ Pipeline.scopedRest cfg0.spec c) := by
  rw [show (rdats m 0 c).Φ (Fin.last cfg0.N) = Φ₁ m c from rfl, scratch_eq, ownSems0_eq, unscopedSems0_eq]
  unfold Φ₁ zeros cellsDone
  iintro ⟨Hr, HA, ⟨Z1, Z2, Z3, Z4, Z5⟩, ⟨H0, ⟨H1, H2, H3⟩, ⟨H4, H5, H6⟩, ⟨H7, H8, H9, H10⟩, H⟩⟩
  isplitl [HA H0]
  · isplitl [HA] <;> iassumption
  isplitr [Hr]
  · isplitl [Z1]; · iexact Z1
    isplitl [Z2]; · iexact Z2
    isplitl [Z3]; · iexact Z3
    isplitl [Z4]; · iexact Z4
    isplitl [Z5]; · iexact Z5
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H
  iexact Hr

theorem waits (c : Dev nD) : (levAts L lv : sProp 𝕄) ⊢ RDat.cellsWaits cfgs (rdats m) () 0 c :=
  RDat.cellsWaits_intro cfgs (rdats m) () 0 c fun w s t => by
    rcases t with ⟨_ | _, ht⟩
    · exact mayWait_own c _ 0 (by fin_cases w; fin_cases s; rfl)
    · exact mayWait_own c _ 10 (by fin_cases w; fin_cases s; rfl)

/-! ## The run -/

/-- A device's operands as they were. -/
def ArgsSame (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4)

theorem args_read (c : Dev nD) (s : Phys nD τ sig (Elt F)) : iprop(argsAt m c ∗ SI s) ⊢ (⌜ArgsSame m c s.mem⌝ : sProp 𝕄) := by
  unfold argsAt
  iintro ⟨⟨H0, H1, H2, H3, H4⟩, HS⟩
  icombine HS H0 gives %h0
  icombine HS H1 gives %h1
  icombine HS H2 gives %h2
  icombine HS H3 gives %h3
  icombine HS H4 gives %h4
  ipureintro
  exact ⟨Buf.eq_of_forall_mem_univ h0, Buf.eq_of_forall_mem_univ h1, Buf.eq_of_forall_mem_univ h2, Buf.eq_of_forall_mem_univ h3, Buf.eq_of_forall_mem_univ h4⟩

theorem result_read (c : Dev nD) (f : Buf (Elt F) ((cfg0.win (0 : Fin 1)).arr.view.loc (c : Thread nD τ))) (h : (rdats m 0 c).ArrAt (0 : Fin 1) cfg0.N f) :
    ∃ p, f = resultOf m c p := by
  have hw : (cfg0.win (0 : Fin 1)).WholeAt t0_0 := by decide
  obtain ⟨X, ⟨Y, -, p, hX⟩, hf⟩ := h.emb_eq_of_wholeAt hw
  exact ⟨p, funext fun j => (hf j).trans (congrFun hX _)⟩

set_option maxRecDepth 8000 in
/-- Every run ends, with each device's operands as they were, its result at a value of the form `resultOf` and every
semaphore at zero. -/
theorem run_main : θ_run defs (onTc (τ := τ) (main (F := F))) ⟨m, fun _ => 0, ρ⟩ (fun r =>
    (∀ c : Dev nD, ArgsSame m c r.2 ∧ ∃ p, r.2.mem ((c : Thread nD τ).loc main_v1) = resultOf m c p) ∧ r.2.sem = fun _ => 0) :=
  RDat.θ_run_region_owing_glob_pf (fun p => (cfgs p).toPCfg) (fun p => (cfgs p).toPCfg_adm) (rdats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun c => owed c 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_ring m) $$ [HX] with HG
      · iexact HX
      imodintro
      isplitl [HP] <;> iassumption)
    (hglob := glob m)
    (hA := fun _ _ => rfl) (hpf := fun _ k => k.elim0)
    (X := start m) (Y := fun c => iprop(argsAt m c ∗ unscopedSems0 c)) (Z := fun _ => iprop(emp))
    (hX := start_intro m ρ) (hin := phi0_intro m) (hout := phi1_exit m)
    (QY := fun c s => ArgsSame m c s ∧ ∀ sm : SemLoc sig, sm.isScoped .tc = false → s.sem ((c.tc : Thread nD τ), sm) = 0)
    (hY := fun c s' => by
      iintro ⟨⟨HA, Hu⟩, -, HSI⟩
      ihave %h := (args_read m c s') $$ [HA HSI]
      · isplitl [HA] <;> iassumption
      imod (Pipeline.unscopedSems0_read (X := unscopedSems0 c) (c := c) fupd_intro s') $$ [Hu HSI] with ⟨%h', HSI⟩
      · isplitl [Hu] <;> iassumption
      imodintro
      isplitr; · ipureintro; exact ⟨h, h'⟩
      iexact HSI)
    (hQ := fun s h hs => ⟨fun c => ⟨(h c).2.2.1, result_read m c _ ((h c).1 0)⟩, sem_eq_zero hs fun c => (h c).2.2.2⟩)

end Cert.Swa

end
-- ==== Proof.Frames.lean ====
/-
# The frames

The run is proved once for the idealized program over any floats. The program itself has the same text, a named constant
read as its bits, so its frame is that run over the machine's floats.
-/
module

public import proofs.«01_k».proof.Defs
public import proofs.«01_k».proof.Proof.Gen.Kernel
public import proofs.«01_k».proof.Proof.Gen.Pre_finite_KernelIdeal
public import proofs.«01_k».proof.Proof.Gen.Pre_finite_ReferenceIdeal
public import proofs.«01_k».proof.Proof.Gen.ReferenceIdeal.Run
public import proofs.«01_k».proof.Proof.Launch

@[expose] public section

noncomputable section

namespace Cert.Swa

open Idealize.ShloMosaic Idealize.ShloMosaic.TcCoe Idealize.SL.Sem

/-- Over the machine's floats a named constant is its bits. -/
@[reducible] def bitsNamed : Named Bits where
  named _ _ b := Scalar.ofBits b

theorem frame_ideal : Cert.quiescent_KernelIdeal := fun m g _ =>
  (θ_run Cert.KernelIdeal.defs _ _).mono (fun _ h => ⟨fun c => (h.1 c).1, h.2⟩) (run_main (F := Ideal) m g)

theorem frame_ideal_finite : Cert.quiescent_KernelIdeal_pre_finite_KernelIdeal := fun m g _ =>
  (θ_run Cert.KernelIdeal.defs _ _).mono (fun _ h => ⟨fun c => (h.1 c).1, h.2⟩) (run_main (F := Ideal) m g)

/-- The run over the machine's floats, the results dropped. -/
theorem run_bits (m : (ℓ : Loc Cert.KernelIdeal.nD Cert.KernelIdeal.τ Cert.KernelIdeal.sig) → Buf (Elt Bits) ℓ) (g : Dev Cert.KernelIdeal.nD → PrngReg) :
    letI := bitsNamed
    θ_run (Cert.KernelIdeal.defs (F := Bits)) (onTc (τ := Cert.KernelIdeal.τ) (Cert.KernelIdeal.main (F := Bits))) ⟨m, fun _ => 0, g⟩ (fun r =>
      (∀ c, ArgsSame m c r.2) ∧ r.2.sem = fun _ => 0) :=
  letI := bitsNamed
  (θ_run (Cert.KernelIdeal.defs (F := Bits)) _ _).mono (fun _ h => ⟨fun c => (h.1 c).1, h.2⟩) (run_main (F := Bits) m g)

/-- Over the machine's floats the two programs have the same bodies. -/
theorem bodies_eq : letI := bitsNamed; @Eq (type_of% (Cert.Kernel.defs₀ (F := Bits))) (Cert.Kernel.defs₀ (F := Bits)) (Cert.KernelIdeal.defs₀ (F := Bits)) := by
  unfold Cert.Kernel.defs₀ Cert.KernelIdeal.defs₀
  refine congrArg Defs.onTc (funext fun l => funext fun a => ?_)
  match l with
  | 0 => rfl
  | ⟨n + 1, h⟩ => exact absurd h (Nat.not_lt.2 (Nat.le_add_left _ _))

theorem tables_eq : letI := bitsNamed; @Eq (type_of% (Cert.Kernel.defs (F := Bits))) (Cert.Kernel.defs (F := Bits)) (Cert.KernelIdeal.defs (F := Bits)) :=
  congrArg (Pipeline.defs (Cert.Kernel.pcfgs (F := Bits))) bodies_eq

theorem frame_kernel : Cert.quiescent_Kernel := fun m g _ => by
  rw [tables_eq]
  exact run_bits m g

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_finite : Cert.quiescent_ReferenceIdeal_pre_finite_ReferenceIdeal := fun m g _ => frame_reference m g trivial

theorem preserved : Cert.preserves_Kernel_KernelIdeal := IdealRules.named_const.statement _ _ _ _ _ rfl

end Cert.Swa

end
-- ==== Proof.Masks.lean ====
/-
# The masks: comparisons of small numbers kept as 32-bit words

Both programs decide which keys a row attends to by comparing positions held in 32-bit words. The positions are small,
so the comparisons are those of the natural numbers.
-/
module

public import Idealize.ShloMosaic.Lib.Affine

@[expose] public section

namespace Cert.Swa

open Idealize.ShloMosaic

/-- A bit that is one exactly when `p` holds. -/
theorem bit_eq {b : BitVec 1} {p : Prop} [Decidable p] (h : b = 1#1 ↔ p) : b = if p then 1#1 else 0#1 := by
  by_cases hp : p
  · rw [if_pos hp, h.2 hp]
  · rw [if_neg hp]
    have hb : b ≠ 1#1 := fun e => hp (h.1 e)
    clear h
    revert hb
    revert b
    decide

/-- A small number's word, read as a signed number, is the number. -/
theorem toInt_small {n : ℕ} (h : n < 65536) : (BitVec.ofNat 32 n).toInt = n := by
  rw [BitVec.toInt_eq_toNat_of_lt] <;> simp only [BitVec.toNat_ofNat] <;> omega

theorem sge_small {a b : ℕ} (ha : a < 65536) (hb : b < 65536) :
    IntOp.cmpi .sge (BitVec.ofNat 32 a) (BitVec.ofNat 32 b) = if b ≤ a then 1#1 else 0#1 := by
  refine bit_eq ?_
  rw [IntOp.cmpi_sge, toInt_small ha, toInt_small hb]
  omega

theorem sle_small {a b : ℕ} (ha : a < 65536) (hb : b < 65536) :
    IntOp.cmpi .sle (BitVec.ofNat 32 a) (BitVec.ofNat 32 b) = if a ≤ b then 1#1 else 0#1 := by
  refine bit_eq ?_
  rw [IntOp.cmpi_sle, toInt_small ha, toInt_small hb]
  omega

theorem add_small (a b : ℕ) : IntOp.addi (BitVec.ofNat 32 a) (BitVec.ofNat 32 b) = BitVec.ofNat 32 (a + b) :=
  (BitVec.ofNat_add a b).symm

/-- The absolute difference of two small positions is at most 128. -/
theorem dist_small {i j : ℕ} (hi : i < 65536) (hj : j < 65536) :
    IntOp.cmpi .sle (IntOp.absi (IntOp.subi (BitVec.ofNat 32 i) (BitVec.ofNat 32 j))) (BitVec.ofNat 32 128)
      = 1#1 ↔ i ≤ j + 128 ∧ j ≤ i + 128 := by
  have hs : (IntOp.subi (BitVec.ofNat 32 i) (BitVec.ofNat 32 j)).toInt = (i : ℤ) - j := by
    rw [IntOp.subi, BitVec.toInt_sub, toInt_small hi, toInt_small hj]
    unfold Int.bmod
    dsimp only
    omega
  rw [IntOp.cmpi_sle, toInt_small (by decide), IntOp.absi, BitVec.msb_eq_toInt, hs]
  by_cases h : (i : ℤ) - j < 0
  · rw [if_pos (by simpa using h), BitVec.toInt_neg, hs]
    unfold Int.bmod
    dsimp only
    omega
  · rw [if_neg (by simpa using h), hs]
    omega

end Cert.Swa
-- ==== Proof.Softmax.lean ====
/-
# Weighted averages with exponential weights

Attention over a set of keys: each key in the set `P` has a real score `a j`, its weight is `exp (a j)` divided by the
sum of these over `P`, and the result is the sum of the values times their weights. The values are extended reals, the
weights nonnegative reals, so that the products may be added, scaled and taken apart as over the reals.

`attend_of_quotient`: dividing once, after the sum, by the sum of the weights gives it.
`attend_of_weights`: so does dividing each weight, also when all the scores are first lowered by the same number.
Both keep the keys outside `P` in the sums, with weight zero.
-/
module

public import Idealize.ShloMosaic.PureOps.Ideal

@[expose] public section

noncomputable section

namespace Cert.Swa

open Idealize.ShloMosaic

variable {ι : Type} [Fintype ι]

/-- A finite sum of reals is the sum of the same reals as extended reals. -/
theorem coe_sum {κ : Type} (s : Finset κ) (f : κ → ℝ) : ((∑ i ∈ s, f i : ℝ) : EReal) = ∑ i ∈ s, (f i : EReal) :=
  map_sum (⟨⟨fun x : ℝ => (x : EReal), rfl⟩, EReal.coe_add⟩ : ℝ →+ EReal) f s

/-- A nonnegative real factor goes inside a sum of extended reals. -/
theorem sum_mul_coe {κ : Type} (s : Finset κ) (f : κ → EReal) {r : ℝ} (hr : 0 ≤ r) :
    (∑ i ∈ s, f i) * (r : EReal) = ∑ i ∈ s, f i * (r : EReal) := by
  classical
  induction s using Finset.induction_on with
  | empty => simp
  | insert i s hi ih =>
    rw [Finset.sum_insert hi, Finset.sum_insert hi, ← ih]
    exact EReal.right_distrib_of_nonneg_of_ne_top (EReal.coe_nonneg.2 hr) (EReal.coe_ne_top r) _ _

/-- The average of the values `V` over the keys in `P`, each weighted by the exponential of its score. -/
def attend (P : ι → Prop) [DecidablePred P] (a : ι → ℝ) (V : ι → EReal) : EReal :=
  ∑ j with P j, V j * ((Real.exp (a j) / ∑ k with P k, Real.exp (a k) : ℝ) : EReal)

variable (P : ι → Prop) [DecidablePred P] (a : ι → ℝ) (V : ι → EReal)

/-- The sum of the weights is a positive real. -/
theorem expSum_pos (hP : ∃ j, P j) : 0 < ∑ k with P k, Real.exp (a k) := by
  obtain ⟨j, hj⟩ := hP
  exact Finset.sum_pos (fun k _ => Real.exp_pos _) ⟨j, Finset.mem_filter.2 ⟨Finset.mem_univ _, hj⟩⟩

/-- Summing the weighted values and the weights over all keys, those outside `P` at weight zero, and dividing once. -/
theorem attend_of_quotient (hP : ∃ j, P j) (E : ι → EReal) (hE : ∀ j, E j = if P j then ((Real.exp (a j) : ℝ) : EReal) else 0) :
    Ideal.div (∑ j, E j * V j) (∑ j, E j) = attend P a V := by
  have hZ := expSum_pos P a hP
  have h1 : ∑ j, E j = ((∑ k with P k, Real.exp (a k) : ℝ) : EReal) := by
    rw [coe_sum, Finset.sum_filter]
    exact Finset.sum_congr rfl fun j _ => hE j
  have h2 : ∑ j, E j * V j = ∑ j with P j, ((Real.exp (a j) : ℝ) : EReal) * V j := by
    rw [Finset.sum_filter]
    refine Finset.sum_congr rfl fun j _ => ?_
    rw [hE j]
    split <;> simp
  rw [h1, h2, Ideal.div_coe hZ.ne', sum_mul_coe _ _ (by positivity), attend]
  refine Finset.sum_congr rfl fun j _ => ?_
  rw [mul_comm ((Real.exp (a j) : ℝ) : EReal), mul_assoc, ← EReal.coe_mul]
  congr 2
  ring

/-- Dividing each weight by their sum, the scores lowered by a real `M` and minus infinity outside `P`. -/
theorem attend_of_weights (hP : ∃ j, P j) (M : ℝ) (S : ι → EReal) (hS : ∀ j, S j = if P j then (a j : EReal) else ⊥) :
    ∑ j, V j * Ideal.div (Ideal.exp (S j - (M : EReal))) (∑ k, Ideal.exp (S k - (M : EReal))) = attend P a V := by
  have hZ := expSum_pos P a hP
  have hW : ∀ j, Ideal.exp (S j - (M : EReal)) = if P j then ((Real.exp (a j) * Real.exp (-M) : ℝ) : EReal) else 0 := by
    intro j
    rw [hS j]
    split
    · rw [← EReal.coe_sub, ← Real.exp_add, ← sub_eq_add_neg]
      rfl
    · rw [EReal.bot_sub]
      rfl
  have hsum : ∑ k, Ideal.exp (S k - (M : EReal)) = ((∑ k with P k, Real.exp (a k) : ℝ) * Real.exp (-M) : ℝ) := by
    rw [Finset.sum_mul, coe_sum, Finset.sum_filter]
    exact Finset.sum_congr rfl fun j _ => hW j
  have hne : (∑ k with P k, Real.exp (a k)) * Real.exp (-M) ≠ 0 := mul_ne_zero hZ.ne' (Real.exp_pos _).ne'
  rw [hsum]
  refine Eq.trans (Finset.sum_congr rfl fun j _ => ?_) (Finset.sum_filter _ _).symm
  rw [Ideal.div_coe hne, hW j]
  split
  · rw [← EReal.coe_mul]
    congr 2
    have := (Real.exp_pos (-M)).ne'
    field_simp
  · simp

/-- The greatest of the scores, minus infinity outside `P`, is a real. -/
theorem sup_real (hP : ∃ j, P j) (S : ι → EReal) (hS : ∀ j, S j = if P j then (a j : EReal) else ⊥) :
    ∃ M : ℝ, Finset.univ.sup S = (M : EReal) := by
  obtain ⟨j, hj⟩ := hP
  have h1 : Finset.univ.sup S ≠ ⊥ := fun h => by
    have := Finset.le_sup (f := S) (Finset.mem_univ j)
    rw [h, hS j, if_pos hj] at this
    exact absurd (le_bot_iff.1 this) (EReal.coe_ne_bot _)
  have h2 : Finset.univ.sup S ≠ ⊤ := by
    refine ((Finset.sup_lt_iff (by exact bot_lt_top)).2 fun k _ => ?_).ne
    rw [hS k]
    split
    · exact EReal.coe_lt_top _
    · exact bot_lt_top
  exact ⟨_, (EReal.coe_toReal h2 h1).symm⟩

/-! ## A window of keys -/

/-- Two positions no more than 128 apart. -/
def Near (i j : ℕ) : Prop := i ≤ j + 128 ∧ j ≤ i + 128
instance (i j : ℕ) : Decidable (Near i j) := inferInstanceAs (Decidable (_ ∧ _))

/-- Column `col` of the window of block `b` is key `256 b + col - 128`. -/
@[irreducible] def keyAt (b : Fin 4) (col : Fin 512) : Fin 4096 := ⟨256 * b.val + col.val - 128, by omega⟩

theorem keyAt_val (b : Fin 4) (col : Fin 512) : (keyAt b col).val = 256 * b.val + col.val - 128 := by
  unfold keyAt
  rfl

/-- Key `j` is column `j + 128 - 256 b` of the window of block `b`. -/
@[irreducible] def colAt (b : Fin 4) (j : Fin 4096) : Fin 512 := ⟨(j.val + 128 - 256 * b.val) % 512, Nat.mod_lt _ (by decide)⟩

theorem colAt_val (b : Fin 4) (j : Fin 4096) : (colAt b j).val = (j.val + 128 - 256 * b.val) % 512 := by
  unfold colAt
  rfl

/-- The columns of block `b`'s window that row `row` attends to: the first block's window begins with 128 columns of padding. -/
def InWindow (b : Fin 4) (row : Fin 256) (col : Fin 512) : Prop :=
  (row.val ≤ col.val ∧ col.val ≤ row.val + 256) ∧ (b.val = 0 → 128 ≤ col.val)
instance (b : Fin 4) (row : Fin 256) (col : Fin 512) : Decidable (InWindow b row col) := inferInstanceAs (Decidable (_ ∧ _))

/-- These columns are the keys no more than 128 from the row: a sum over the ones is the sum over the others. -/
theorem sum_window {M : Type} [AddCommMonoid M] (b : Fin 4) (row : Fin 256) (f : Fin 4096 → M) :
    ∑ col with InWindow b row col, f (keyAt b col) = ∑ j with Near (256 * b.val + row.val) (Fin.val j), f j := by
  have hr := row.isLt
  refine Finset.sum_bij' (fun col _ => keyAt b col) (fun j _ => colAt b j)
    (fun col h => ?_) (fun j h => ?_) (fun col h => ?_) (fun j h => ?_) fun _ _ => rfl
  · obtain ⟨⟨h1, h2⟩, h3⟩ := (Finset.mem_filter.1 h).2
    refine Finset.mem_filter.2 ⟨Finset.mem_univ _, ?_, ?_⟩ <;> rw [keyAt_val] <;> omega
  · obtain ⟨h1, h2⟩ := (Finset.mem_filter.1 h).2
    have hc := colAt_val b j
    exact Finset.mem_filter.2 ⟨Finset.mem_univ _, ⟨⟨by omega, by omega⟩, fun h3 => by omega⟩⟩
  · obtain ⟨⟨h1, h2⟩, h3⟩ := (Finset.mem_filter.1 h).2
    have hc := colAt_val b (keyAt b col)
    have hk := keyAt_val b col
    exact Fin.ext (by omega)
  · obtain ⟨h1, h2⟩ := (Finset.mem_filter.1 h).2
    have hc := colAt_val b j
    have hk := keyAt_val b (colAt b j)
    exact Fin.ext (by omega)

/-- Attention over a window is attention over the keys no more than 128 from the row. -/
theorem attend_window (b : Fin 4) (row : Fin 256) (a : Fin 4096 → ℝ) (V : Fin 4096 → EReal) :
    attend (InWindow b row) (fun col => a (keyAt b col)) (fun col => V (keyAt b col))
      = attend (fun j : Fin 4096 => Near (256 * b.val + row.val) j.val) a V := by
  rw [attend, attend, sum_window b row fun j => Real.exp (a j)]
  exact sum_window b row fun j => V j * ((Real.exp (a j) / ∑ k : Fin 4096 with Near (256 * b.val + row.val) k.val, Real.exp (a k) : ℝ) : EReal)

end Cert.Swa

end
-- ==== Proof.Formula.lean ====
/-
# The problem's formula

Sliding-window attention over 1024 rows, 32 heads of 128 features and 4096 keys, as one function of real `x`, `Wq` and
keys and of extended real values and `Wo`: the scores are the scaled products of the projected rows with the keys, each
row averages the values of the keys no more than 128 away, and the heads side by side are multiplied by `Wo`.
-/
module

public import proofs.«01_k».proof.Proof.Softmax

@[expose] public section

noncomputable section

namespace Cert.Swa

/-- Feature `d` of head `h` among the 4096 columns of all heads; the head and the feature of a column. -/
def headCol (h : Fin 32) (d : Fin 128) : Fin 4096 := ⟨h.val * 128 + d.val, by omega⟩
def headOf (c : Fin 4096) : Fin 32 := ⟨c.val / 128, by omega⟩
def featOf (c : Fin 4096) : Fin 128 := ⟨c.val % 128, by omega⟩

/-- The real inputs: the rows, the query projection, the keys, the scale. -/
structure Reals where
  x : Fin 1024 → Fin 1024 → ℝ
  wq : Fin 1024 → Fin 4096 → ℝ
  k : Fin 4096 → Fin 32 → Fin 128 → ℝ
  scale : ℝ

/-- Row `i`'s score with key `j` in head `h`. -/
def Reals.score (R : Reals) (i : Fin 1024) (h : Fin 32) (j : Fin 4096) : ℝ :=
  (∑ t : Fin 128, (∑ u : Fin 1024, R.x i u * R.wq u (headCol h t)) * R.k j h t) * R.scale

/-- Row `i`'s average of feature `d` of head `h`'s values. -/
def Reals.context (R : Reals) (v : Fin 4096 → Fin 32 → Fin 128 → EReal) (i : Fin 1024) (h : Fin 32) (d : Fin 128) : EReal :=
  attend (fun j : Fin 4096 => Near i.val j.val) (R.score i h) (fun j => v j h d)

/-- The result at row `i` and column `n`. -/
def Reals.result (R : Reals) (v : Fin 4096 → Fin 32 → Fin 128 → EReal) (wo : Fin 4096 → Fin 1024 → EReal) (i n : Fin 1024) : EReal :=
  ∑ c : Fin 4096, R.context v i (headOf c) (featOf c) * wo c n

/-- Every row attends to some key: the one at its own position. -/
theorem near_self (i : Fin 1024) : ∃ j : Fin 4096, Near i.val j.val :=
  ⟨⟨i.val, by omega⟩, by show i.val ≤ i.val + 128 ∧ i.val ≤ i.val + 128; omega⟩

end Cert.Swa

end
-- ==== Proof.KernelAt.lean ====
/-
# The kernel's definitions at an index

Each of the kernel's arrays, read at one index: the bias, the eight heads of a block, the projected rows, the windows of
padded keys and values, and the buffers they are loaded from.
-/
module

public import proofs.«01_k».proof.Proof.Values
public import proofs.«01_k».proof.Proof.Masks
public import proofs.«01_k».proof.Proof.Formula
public import Idealize.ShloMosaic.Lib.Pointwise

@[expose] public section

noncomputable section

namespace Cert.Swa

open Cert.KernelIdeal Cert.KernelIdeal.Gen
open Idealize.ShloMosaic Idealize.ShloMosaic.TcCoe

/-- One row of one head: the unnormalised weights' sum against the values, over the weights' sum. -/
def headRow (b : Fin 512 → EReal) (q : Fin 128 → EReal) (k v : Vec Ideal S512x1x128 .f32) (d : Fin 128) : EReal :=
  Ideal.div (∑ col : Fin 512, Ideal.exp ((∑ t : Fin 128, q t * k (ix3 col 0 t)) + b col) * v (ix3 col 0 d))
    (∑ col : Fin 512, Ideal.exp ((∑ t : Fin 128, q t * k (ix3 col 0 t)) + b col))

theorem head256_apply (b : FVec Ideal S256x512 .f32) (q : FVec Ideal S256x128 .f32) (k v : Vec Ideal S512x1x128 .f32) (r : Fin 256) (d : Fin 128) :
    head256 b q k v (ix2 r d) = headRow (fun col => b (ix2 r col)) (fun t => q (ix2 r t)) k v d := by
  pointwise [head256, weights256, headRow]

theorem head128_apply (b : FVec Ideal S128x512 .f32) (q : FVec Ideal S128x128 .f32) (k v : Vec Ideal S512x1x128 .f32) (r : Fin 128) (d : Fin 128) :
    head128 b q k v (ix2 r d) = headRow (fun col => b (ix2 r col)) (fun t => q (ix2 r t)) k v d := by
  pointwise [head128, weights128, headRow]

/-- Column `d` of head `h` among the 1024 columns of eight heads. -/
def colOf (h : Fin 8) (d : Fin 128) : Fin 1024 := ⟨128 * h.val + d.val, by omega⟩

/-- Two columns of the same number are one. -/
theorem at_col {n} (x : FVec Ideal (⟨2, ![n, 128]⟩ : Shape) .f32) (r : Fin n) (d : Fin 128) {c : ℕ} (hc : c < 128) (h : c = d.val) :
    x (ix2 r ⟨c, hc⟩) = x (ix2 r d) := by
  subst h; rfl

/-- Eight arrays of 128 columns side by side, read in column `d` of array `h`. -/
theorem beside256 (x0 x1 x2 x3 x4 x5 x6 x7 : FVec Ideal S256x128 .f32) (r : Fin 256) (h : Fin 8) (d : Fin 128) :
    concatenate S256x1024 1 [⟨S256x128, x0⟩, ⟨S256x128, x1⟩, ⟨S256x128, x2⟩, ⟨S256x128, x3⟩, ⟨S256x128, x4⟩, ⟨S256x128, x5⟩, ⟨S256x128, x6⟩, ⟨S256x128, x7⟩]
        concatenates_S256x128_S256x128_S256x128_S256x128_S256x128_S256x128_S256x128_S256x128_S256x1024_d1 (ix2 r (colOf h d))
      = ![x0, x1, x2, x3, x4, x5, x6, x7] h (ix2 r d) := by
  have hd := d.isLt
  fin_cases h <;> pointwise [colOf] <;> repeat (first | rw [dif_neg (by omega)] | rw [dif_pos (by omega)])
  all_goals
    refine at_col _ r d _ ?_
    omega

/-- Eight arrays of 128 columns side by side, read in column `d` of array `h`. -/
theorem beside128 (x0 x1 x2 x3 x4 x5 x6 x7 : FVec Ideal S128x128 .f32) (r : Fin 128) (h : Fin 8) (d : Fin 128) :
    concatenate S128x1024 1 [⟨S128x128, x0⟩, ⟨S128x128, x1⟩, ⟨S128x128, x2⟩, ⟨S128x128, x3⟩, ⟨S128x128, x4⟩, ⟨S128x128, x5⟩, ⟨S128x128, x6⟩, ⟨S128x128, x7⟩]
        concatenates_S128x128_S128x128_S128x128_S128x128_S128x128_S128x128_S128x128_S128x128_S128x1024_d1 (ix2 r (colOf h d))
      = ![x0, x1, x2, x3, x4, x5, x6, x7] h (ix2 r d) := by
  have hd := d.isLt
  fin_cases h <;> pointwise [colOf] <;> repeat (first | rw [dif_neg (by omega)] | rw [dif_pos (by omega)])
  all_goals
    refine at_col _ r d _ ?_
    omega

/-- Eight heads over 256 rows, in column `d` of head `h`. -/
theorem ctx256_apply (b : FVec Ideal S256x512 .f32) (q : FVec Ideal S256x1024 .f32) (k v : Fin 8 → Vec Ideal S512x1x128 .f32) (r : Fin 256)
    (h : Fin 8) (d : Fin 128) :
    ctx256 b q k v (ix2 r (colOf h d))
      = headRow (fun col => b (ix2 r col)) (fun t => q (ix2 r (colOf h t))) (k h) (v h) d := by
  rw [ctx256, beside256]
  fin_cases h <;> refine (head256_apply _ _ _ _ r d).trans ?_ <;> pointwise [colOf]

/-- The first 128 rows. -/
theorem ctxTop_apply (b : FVec Ideal S128x512 .f32) (q : FVec Ideal S256x1024 .f32) (k v : Fin 8 → Vec Ideal S512x1x128 .f32) (r : Fin 128)
    (h : Fin 8) (d : Fin 128) :
    ctxTop b q k v (ix2 r (colOf h d))
      = headRow (fun col => b (ix2 r col)) (fun t => q (ix2 (⟨r.val, by omega⟩ : Fin 256) (colOf h t))) (k h) (v h) d := by
  rw [ctxTop, beside128]
  fin_cases h <;> refine (head128_apply _ _ _ _ r d).trans ?_ <;> pointwise [colOf]

/-- The last 128 rows. -/
theorem ctxBot_apply (b : FVec Ideal S128x512 .f32) (q : FVec Ideal S256x1024 .f32) (k v : Fin 8 → Vec Ideal S512x1x128 .f32) (r : Fin 128)
    (h : Fin 8) (d : Fin 128) :
    ctxBot b q k v (ix2 r (colOf h d))
      = headRow (fun col => b (ix2 r col)) (fun t => q (ix2 (⟨128 + r.val, by omega⟩ : Fin 256) (colOf h t))) (k h) (v h) d := by
  rw [ctxBot, beside128]
  fin_cases h <;> refine (head128_apply _ _ _ _ r d).trans ?_ <;> pointwise [colOf]

/-! ## The bias -/

theorem mask_ideal : (Named.named κ "mask" 0xCE6E6B28#32 : Ideal .f32) = (⊥ : EReal) :=
  IdealRules.named_const.ideal_named_scalar κ "mask" _ _ rfl

/-- The bias of a block other than the first: zero where the column is within 256 of the row, from the row on. -/
theorem bias_apply (row : Fin 256) (col : Fin 512) :
    (k0_pay4 (F := Ideal)) (ix2 row col) = if row.val ≤ col.val ∧ col.val ≤ row.val + 256 then (0 : EReal) else ⊥ := by
  have h1 := sge_small (a := col.val) (b := row.val) (by omega) (by omega)
  have h2 := sle_small (a := col.val) (b := row.val + 256) (by omega) (by omega)
  rw [← add_small] at h2
  pointwise [k0_pay4, k0_pay3, h1, h2, mask_ideal]
  by_cases h3 : row.val ≤ col.val <;> by_cases h4 : col.val ≤ row.val + 256 <;> simp [h3, h4, Scalar.select, IntOp.andi]

/-- The bias of the first block: minus infinity on the 128 padded columns as well. -/
theorem bias_first_apply (row : Fin 256) (col : Fin 512) :
    (k0_pay5 (F := Ideal)) (ix2 row col)
      = if (row.val ≤ col.val ∧ col.val ≤ row.val + 256) ∧ 128 ≤ col.val then (0 : EReal) else ⊥ := by
  have h1 := sge_small (a := col.val) (b := row.val) (by omega) (by omega)
  have h2 := sle_small (a := col.val) (b := row.val + 256) (by omega) (by omega)
  have h5 := sge_small (a := col.val) (b := 128) (by omega) (by omega)
  rw [← add_small] at h2
  pointwise [k0_pay5, k0_pay3, h1, h2, h5, mask_ideal]
  by_cases h3 : row.val ≤ col.val <;> by_cases h4 : col.val ≤ row.val + 256 <;> by_cases h6 : 128 ≤ col.val <;>
    simp [h3, h4, h6, Scalar.select, IntOp.andi]

/-- Whether the block is the first, as the kernel asks it. -/
theorem first_block (s : Dev nD) (r : Fin 4) :
    Scalar.cmpi .eq (Scalar.remsi (Scalar.subi (Scalar.addi (place s) 4#32) (BitVec.ofNat 32 r.val)) 4#32) 0#32
      = if (back r s).val = 0 then 1#1 else 0#1 := by
  revert s r; decide

/-- A device's number as a block's. -/
abbrev blockOf (s : Dev nD) : Fin 4 := s

/-- The bias of the block `r` places before the device's own. -/
theorem biasAt_apply (s : Dev nD) (r : Fin 4) (row : Fin 256) (col : Fin 512) :
    biasAt (F := Ideal) s (BitVec.ofNat 32 r.val) (ix2 row col)
      = if InWindow (blockOf (back r s)) row col then (0 : EReal) else ⊥ := by
  rw [biasAt, first_block]
  by_cases h : (back r s).val = 0
  · rw [if_pos h, ValueIdx.select_one, bias_first_apply]
    exact if_congr (and_congr_right fun _ => ⟨fun a _ => a, fun a => a h⟩) rfl rfl
  · rw [if_neg h, ValueIdx.select_zero, bias_apply]
    exact if_congr ⟨fun a => ⟨a, fun b => absurd b h⟩, And.left⟩ rfl rfl

/-! ## The windows -/

/-- An array at equal coordinates. -/
theorem at_ix3 {A B C : ℕ} {α : Type} (f : (⟨3, ![A, B, C]⟩ : Shape).Idx → α) {a a' : Fin A} {b b' : Fin B} {c c' : Fin C}
    (ha : a.val = a'.val) (hb : b.val = b'.val) (hc : c.val = c'.val) : f (ix3 a b c) = f (ix3 a' b' c') := by
  rw [Fin.ext ha, Fin.ext hb, Fin.ext hc]

/-! Where the eight heads' windows begin: at row 256 times the block's number. -/

theorem place0 (s : Dev nD) (r : Fin 4) : k0_off2 s (BitVec.ofNat 32 r.val) = ![256 * (back r s).val, 0, 0] := by
  revert s r; decide
theorem place1 (s : Dev nD) (r : Fin 4) : k0_off3 s (BitVec.ofNat 32 r.val) = ![256 * (back r s).val, 1, 0] := by
  revert s r; decide
theorem place2 (s : Dev nD) (r : Fin 4) : k0_off4 s (BitVec.ofNat 32 r.val) = ![256 * (back r s).val, 2, 0] := by
  revert s r; decide
theorem place3 (s : Dev nD) (r : Fin 4) : k0_off5 s (BitVec.ofNat 32 r.val) = ![256 * (back r s).val, 3, 0] := by
  revert s r; decide
theorem place4 (s : Dev nD) (r : Fin 4) : k0_off6 s (BitVec.ofNat 32 r.val) = ![256 * (back r s).val, 4, 0] := by
  revert s r; decide
theorem place5 (s : Dev nD) (r : Fin 4) : k0_off7 s (BitVec.ofNat 32 r.val) = ![256 * (back r s).val, 5, 0] := by
  revert s r; decide
theorem place6 (s : Dev nD) (r : Fin 4) : k0_off8 s (BitVec.ofNat 32 r.val) = ![256 * (back r s).val, 6, 0] := by
  revert s r; decide
theorem place7 (s : Dev nD) (r : Fin 4) : k0_off9 s (BitVec.ofNat 32 r.val) = ![256 * (back r s).val, 7, 0] := by
  revert s r; decide

theorem row_lt (s : Dev nD) (r : Fin 4) (col : Fin 512) : 256 * (back r s).val + col.val < 1280 := by
  have : (back r s).val < 4 := (back r s).isLt
  omega

/-- Column `col` of the key window of head `h` is that row of the key buffer. -/
theorem windowK (s : Dev nD) (r : Fin 4) (f : kM.view.ref.ty.Contents (Elt Ideal)) (h : Fin 8) (col : Fin 512) (d : Fin 128) :
    window kM s r f h (ix3 col 0 d) = f (ix3 (⟨256 * (back r s).val + col.val, row_lt s r col⟩ : Fin 1280) h d) := by
  have hf : ∀ x, View.read (Elt Ideal) (View.whole cc0_scratch2) f x = f x := fun x => rfl
  fin_cases h <;> pointwise [window, View.readAt_apply, hf]
  · exact at_ix3 f (congrArg (· + col.val) (congrFun (place0 s r) 0)) (congrFun (place0 s r) 1) ((congrArg (· + d.val) (congrFun (place0 s r) 2)).trans (Nat.zero_add _))
  · exact at_ix3 f (congrArg (· + col.val) (congrFun (place1 s r) 0)) (congrFun (place1 s r) 1) ((congrArg (· + d.val) (congrFun (place1 s r) 2)).trans (Nat.zero_add _))
  · exact at_ix3 f (congrArg (· + col.val) (congrFun (place2 s r) 0)) (congrFun (place2 s r) 1) ((congrArg (· + d.val) (congrFun (place2 s r) 2)).trans (Nat.zero_add _))
  · exact at_ix3 f (congrArg (· + col.val) (congrFun (place3 s r) 0)) (congrFun (place3 s r) 1) ((congrArg (· + d.val) (congrFun (place3 s r) 2)).trans (Nat.zero_add _))
  · exact at_ix3 f (congrArg (· + col.val) (congrFun (place4 s r) 0)) (congrFun (place4 s r) 1) ((congrArg (· + d.val) (congrFun (place4 s r) 2)).trans (Nat.zero_add _))
  · exact at_ix3 f (congrArg (· + col.val) (congrFun (place5 s r) 0)) (congrFun (place5 s r) 1) ((congrArg (· + d.val) (congrFun (place5 s r) 2)).trans (Nat.zero_add _))
  · exact at_ix3 f (congrArg (· + col.val) (congrFun (place6 s r) 0)) (congrFun (place6 s r) 1) ((congrArg (· + d.val) (congrFun (place6 s r) 2)).trans (Nat.zero_add _))
  · exact at_ix3 f (congrArg (· + col.val) (congrFun (place7 s r) 0)) (congrFun (place7 s r) 1) ((congrArg (· + d.val) (congrFun (place7 s r) 2)).trans (Nat.zero_add _))

/-- And of the value window. -/
theorem windowV (s : Dev nD) (r : Fin 4) (f : vM.view.ref.ty.Contents (Elt Ideal)) (h : Fin 8) (col : Fin 512) (d : Fin 128) :
    window vM s r f h (ix3 col 0 d) = f (ix3 (⟨256 * (back r s).val + col.val, row_lt s r col⟩ : Fin 1280) h d) := by
  have hf : ∀ x, View.read (Elt Ideal) (View.whole cc0_scratch3) f x = f x := fun x => rfl
  fin_cases h <;> pointwise [window, View.readAt_apply, hf]
  · exact at_ix3 f (congrArg (· + col.val) (congrFun (place0 s r) 0)) (congrFun (place0 s r) 1) ((congrArg (· + d.val) (congrFun (place0 s r) 2)).trans (Nat.zero_add _))
  · exact at_ix3 f (congrArg (· + col.val) (congrFun (place1 s r) 0)) (congrFun (place1 s r) 1) ((congrArg (· + d.val) (congrFun (place1 s r) 2)).trans (Nat.zero_add _))
  · exact at_ix3 f (congrArg (· + col.val) (congrFun (place2 s r) 0)) (congrFun (place2 s r) 1) ((congrArg (· + d.val) (congrFun (place2 s r) 2)).trans (Nat.zero_add _))
  · exact at_ix3 f (congrArg (· + col.val) (congrFun (place3 s r) 0)) (congrFun (place3 s r) 1) ((congrArg (· + d.val) (congrFun (place3 s r) 2)).trans (Nat.zero_add _))
  · exact at_ix3 f (congrArg (· + col.val) (congrFun (place4 s r) 0)) (congrFun (place4 s r) 1) ((congrArg (· + d.val) (congrFun (place4 s r) 2)).trans (Nat.zero_add _))
  · exact at_ix3 f (congrArg (· + col.val) (congrFun (place5 s r) 0)) (congrFun (place5 s r) 1) ((congrArg (· + d.val) (congrFun (place5 s r) 2)).trans (Nat.zero_add _))
  · exact at_ix3 f (congrArg (· + col.val) (congrFun (place6 s r) 0)) (congrFun (place6 s r) 1) ((congrArg (· + d.val) (congrFun (place6 s r) 2)).trans (Nat.zero_add _))
  · exact at_ix3 f (congrArg (· + col.val) (congrFun (place7 s r) 0)) (congrFun (place7 s r) 1) ((congrArg (· + d.val) (congrFun (place7 s r) 2)).trans (Nat.zero_add _))

/-! ## The buffers -/

variable (m : (ℓ : Loc nD τ sig) → Buf (Elt Ideal) ℓ)

/-- The key buffer's rectangle of 1152 rows, as the place of key `j`. -/
theorem row_place (j : Fin 1152) (h : Fin 8) (d : Fin 128) (hj : 128 + j.val < 1280) :
    (Rect.unit (s := S1280x8x128) ![128, 0, 0] S1152x8x128.size inb_S1280x8x128_S1152x8x128_128_0_0).emb (ix3 j h d)
      = ix3 (⟨128 + j.val, hj⟩ : Fin 1280) h d := by
  refine Rect.emb_eq_of_coords _ _ _ fun a => ?_
  fin_cases a
  · exact congrArg (128 + ·) (Nat.one_mul j.val).symm
  · exact ((Nat.zero_add _).trans (Nat.one_mul h.val)).symm
  · exact ((Nat.zero_add _).trans (Nat.one_mul d.val)).symm

/-- Row `128 + j` of the key buffer is key `j`. -/
theorem keyBuf_apply (s : Dev nD) (f : cc0_scratch2.ty.Contents (Elt Ideal)) (j : Fin 1152) (h : Fin 8) (d : Fin 128)
    (hj : 128 + j.val < 1280) : keyBuf m s f (ix3 (⟨128 + j.val, hj⟩ : Fin 1280) h d) = keysOf m s (ix3 j h d) := by
  rw [← row_place j h d hj]
  exact View.write_emb_of_mem (v := kM.view.slice (Rect.unit (s := S1280x8x128) ![128, 0, 0] S1152x8x128.size inb_S1280x8x128_S1152x8x128_128_0_0))
    f (keysOf m s) (Finset.mem_univ (ix3 j h d))

/-- Row `128 + j` of the value buffer is value `j`. -/
theorem valBuf_apply (s : Dev nD) (f : cc0_scratch3.ty.Contents (Elt Ideal)) (j : Fin 1152) (h : Fin 8) (d : Fin 128)
    (hj : 128 + j.val < 1280) : valBuf m s f (ix3 (⟨128 + j.val, hj⟩ : Fin 1280) h d) = valsOf m s (ix3 j h d) := by
  rw [← row_place j h d hj]
  exact View.write_emb_of_mem (v := vM.view.slice (Rect.unit (s := S1280x8x128) ![128, 0, 0] S1152x8x128.size inb_S1280x8x128_S1152x8x128_128_0_0))
    _ (valsOf m s) (Finset.mem_univ (ix3 j h d))

/-! ## What the buffers and rows are of the arguments -/

/-- A device's arguments, as arrays. -/
def xArg (s : Dev nD) : FVec Ideal S1x256x1024 .f32 := m ((s : Thread nD τ).loc main_arg0)
def wqArg (s : Dev nD) : FVec Ideal S1024x1024 .f32 := m ((s : Thread nD τ).loc main_arg1)
def kArg (s : Dev nD) : FVec Ideal S1x4096x32x128 .f32 := m ((s : Thread nD τ).loc main_arg2)
def vArg (s : Dev nD) : FVec Ideal S1x4096x32x128 .f32 := m ((s : Thread nD τ).loc main_arg3)
def woArg (s : Dev nD) : FVec Ideal S1024x1024 .f32 := m ((s : Thread nD τ).loc main_arg4)

theorem keysOf_eq (s : Dev nD) : keysOf m s = shapeCast S1152x8x128
    (fun (x : (⟨4, ![1, 1152, 8, 128]⟩ : Shape).Idx) =>
      kArg m s ((Rect.unit (s := S1x4096x32x128) (k0_off1 s) S1x1152x8x128.size (k0_off1_inb s)).idx x)) (by decide) := rfl

theorem valsOf_eq (s : Dev nD) : valsOf m s = shapeCast S1152x8x128
    (fun (x : (⟨4, ![1, 1152, 8, 128]⟩ : Shape).Idx) =>
      vArg m s ((Rect.unit (s := S1x4096x32x128) (k0_off1 s) S1x1152x8x128.size (k0_off1_inb s)).idx x)) (by decide) := rfl

theorem heads_from (s : Dev nD) : k0_off1 s = ![0, 0, 8 * s.val, 0] := by revert s; decide

theorem head_lt (s : Dev nD) (h : Fin 8) : 8 * s.val + h.val < 32 := by
  have : s.val < 4 := s.isLt
  omega

/-- Device `s`'s head `h` among all heads. -/
def headAt (s : Dev nD) (h : Fin 8) : Fin 32 := ⟨8 * s.val + h.val, head_lt s h⟩

/-- A four-dimensional array at equal coordinates. -/
theorem at_ix4 {A B C D : ℕ} {α : Type} (f : (⟨4, ![A, B, C, D]⟩ : Shape).Idx → α) {a a' : Fin A} {b b' : Fin B} {c c' : Fin C} {d d' : Fin D}
    (ha : a.val = a'.val) (hb : b.val = b'.val) (hc : c.val = c'.val) (hd : d.val = d'.val) : f (ix4 a b c d) = f (ix4 a' b' c' d') := by
  rw [Fin.ext ha, Fin.ext hb, Fin.ext hc, Fin.ext hd]

theorem keys_apply (s : Dev nD) (j : Fin 1152) (h : Fin 8) (d : Fin 128) :
    keysOf m s (ix3 j h d) = kArg m s (ix4 0 (⟨j.val, by omega⟩ : Fin 4096) (headAt s h) d) := by
  have e := congrFun (heads_from s)
  rw [keysOf_eq]
  pointwise
  exact at_ix4 _ (e 0) ((congrArg (· + j.val) (e 1)).trans (Nat.zero_add _)) (congrArg (· + h.val) (e 2))
    ((congrArg (· + d.val) (e 3)).trans (Nat.zero_add _))

theorem vals_apply (s : Dev nD) (j : Fin 1152) (h : Fin 8) (d : Fin 128) :
    valsOf m s (ix3 j h d) = vArg m s (ix4 0 (⟨j.val, by omega⟩ : Fin 4096) (headAt s h) d) := by
  have e := congrFun (heads_from s)
  rw [valsOf_eq]
  pointwise
  exact at_ix4 _ (e 0) ((congrArg (· + j.val) (e 1)).trans (Nat.zero_add _)) (congrArg (· + h.val) (e 2))
    ((congrArg (· + d.val) (e 3)).trans (Nat.zero_add _))

theorem xRows_eq (s : Dev nD) : xRows m s = shapeCast S256x1024
    (fun (x : (⟨3, ![1, 256, 1024]⟩ : Shape).Idx) =>
      xArg m s ((Rect.unit (s := S1x256x1024) ![0, 0, 0] S1x256x1024.size inb_S1x256x1024_S1x256x1024_0_0_0).idx x)) (by decide) := rfl

/-- The projected rows of device `s`'s block. -/
theorem queries_apply (wq : Vec Ideal S1024x1024 .f32) (s : Dev nD) (row : Fin 256) (col : Fin 1024) :
    queries wq (xSent m s) (ix2 row col)
      = (∑ t : Fin 1024, xArg m s (ix3 (0 : Fin 1) row t) * wq (ix2 t col)) * Ideal.ofBits .f32 0x3DB504F3#32 := by
  pointwise [queries, xSent, k0_pay6, k0_pay2, xRows_eq, xArg]

end Cert.Swa

end
-- ==== Proof.KernelRow.lean ====
/-
# The kernel's partial results over the reals

When the rows of `x`, the query projection and the keys are real numbers, a device's eight heads over a block are the
heads' averages of the values, whatever the padding of its buffers held: a padded column's score has minus infinity
added, so its weight is zero, and zero times anything is zero.
-/
module

public import proofs.«01_k».proof.Proof.KernelAt

@[expose] public section

noncomputable section

namespace Cert.Swa

open Cert.KernelIdeal Cert.KernelIdeal.Gen
open Idealize.ShloMosaic Idealize.ShloMosaic.TcCoe

/-- Row `row` of block `b`, and column `c` of device `s`'s columns of the query projection. -/
def rowAt (b : Dev nD) (row : Fin 256) : Fin 1024 := ⟨256 * b.val + row.val, by have : b.val < 4 := b.isLt; omega⟩
def colOn (s : Dev nD) (c : Fin 1024) : Fin 4096 := ⟨s.val * 1024 + c.val, by have : s.val < 4 := s.isLt; omega⟩

theorem headCol_at (s : Dev nD) (h : Fin 8) (t : Fin 128) : headCol (headAt s h) t = colOn s (colOf h t) :=
  Fin.ext (by show (8 * s.val + h.val) * 128 + t.val = s.val * 1024 + (128 * h.val + t.val); omega)

/-- What the devices' arguments are: the blocks of `R`'s rows and projection, its keys, the values `V`, the rows of `WO`. -/
structure Holds (R : Reals) (V : Fin 4096 → Fin 32 → Fin 128 → EReal) (WO : Fin 4096 → Fin 1024 → EReal)
    (m : (ℓ : Loc nD τ sig) → Buf (Elt Ideal) ℓ) : Prop where
  x : ∀ s row t, xArg m s (ix3 0 row t) = (R.x (rowAt s row) t : EReal)
  wq : ∀ s t c, wqArg m s (ix2 t c) = (R.wq t (colOn s c) : EReal)
  k : ∀ s j h d, kArg m s (ix4 0 j h d) = (R.k j h d : EReal)
  v : ∀ s j h d, vArg m s (ix4 0 j h d) = V j h d
  wo : ∀ s c n, woArg m s (ix2 c n) = WO (colOn s c) n
  scale : Ideal.ofBits .f32 0x3DB504F3#32 = (R.scale : EReal)

/-- Every row attends to some column: the 128th after its own. -/
theorem window_self (b : Fin 4) (row : Fin 256) : ∃ col : Fin 512, InWindow b row col :=
  ⟨⟨row.val + 128, by omega⟩, ⟨by show row.val ≤ row.val + 128; omega, by show row.val + 128 ≤ row.val + 256; omega⟩,
    fun _ => by show 128 ≤ row.val + 128; omega⟩

/-- Attention depends on the values at the keys attended to only. -/
theorem attend_congr {ι : Type} [Fintype ι] (P : ι → Prop) [DecidablePred P] (a : ι → ℝ) {V W : ι → EReal} (h : ∀ j, P j → V j = W j) :
    attend P a V = attend P a W :=
  Finset.sum_congr rfl fun j hj => by rw [h j (Finset.mem_filter.1 hj).2]

/-- One row of one head: the window's padding is of no effect. -/
theorem headRow_real (R : Reals) (V : Fin 4096 → Fin 32 → Fin 128 → EReal) (b : Dev nD) (row : Fin 256) (H : Fin 32) (d : Fin 128)
    (bias : Fin 512 → EReal) (q : Fin 128 → EReal) (k v : Vec Ideal S512x1x128 .f32)
    (hb : ∀ col, bias col = if InWindow (blockOf b) row col then 0 else ⊥)
    (hq : ∀ t, q t = (((∑ u : Fin 1024, R.x (rowAt b row) u * R.wq u (headCol H t)) * R.scale : ℝ) : EReal))
    (hk : ∀ col, InWindow (blockOf b) row col → ∀ t, k (ix3 col 0 t) = (R.k (keyAt (blockOf b) col) H t : EReal))
    (hv : ∀ col, InWindow (blockOf b) row col → v (ix3 col 0 d) = V (keyAt (blockOf b) col) H d) :
    headRow bias q k v d = R.context V (rowAt b row) H d := by
  have hE : ∀ col, Ideal.exp ((∑ t : Fin 128, q t * k (ix3 col 0 t)) + bias col)
      = if InWindow (blockOf b) row col then ((Real.exp (R.score (rowAt b row) H (keyAt (blockOf b) col)) : ℝ) : EReal) else 0 := by
    intro col
    by_cases h : InWindow (blockOf b) row col
    · rw [hb, if_pos h, if_pos h, add_zero, Reals.score, ← Ideal.exp_coe]
      refine congrArg Ideal.exp ?_
      rw [Finset.sum_mul, coe_sum]
      refine Finset.sum_congr rfl fun t _ => ?_
      rw [hq, hk col h, ← EReal.coe_mul]
      exact congrArg _ (mul_right_comm _ _ _)
    · rw [hb, if_neg h, if_neg h, EReal.add_bot, Ideal.exp_bot]
  rw [headRow, attend_of_quotient (InWindow (blockOf b) row) (fun col => R.score (rowAt b row) H (keyAt (blockOf b) col))
      (fun col => v (ix3 col 0 d)) (window_self _ _) _ hE,
    attend_congr _ _ hv]
  exact attend_window (blockOf b) row (R.score (rowAt b row) H) fun j => V j H d

variable {R : Reals} {V : Fin 4096 → Fin 32 → Fin 128 → EReal} {WO : Fin 4096 → Fin 1024 → EReal}
  {m : (ℓ : Loc nD τ sig) → Buf (Elt Ideal) ℓ}

/-- A block's projected rows. -/
theorem queries_real (H : Holds R V WO m) (s b : Dev nD) (row : Fin 256) (h : Fin 8) (t : Fin 128) :
    queries (wqOf m s) (xSent m b) (ix2 row (colOf h t))
      = (((∑ u : Fin 1024, R.x (rowAt b row) u * R.wq u (headCol (headAt s h) t)) * R.scale : ℝ) : EReal) := by
  rw [queries_apply, H.scale, EReal.coe_mul, coe_sum, headCol_at]
  refine congrArg (· * (R.scale : EReal)) (Finset.sum_congr rfl fun u _ => ?_)
  rw [H.x, EReal.coe_mul]
  exact congrArg _ (H.wq s u (colOf h t))

/-- The key of a column in the window, among the 1152 keys that are loaded. -/
theorem keyAt_lt (b : Dev nD) (col : Fin 512) : (keyAt (blockOf b) col).val < 1152 := by
  have : b.val < 4 := b.isLt
  rw [keyAt_val]
  show 256 * b.val + col.val - 128 < 1152
  omega

theorem key_row (b : Dev nD) {row : Fin 256} {col : Fin 512} (h : InWindow (blockOf b) row col) :
    256 * b.val + col.val = 128 + (keyAt (blockOf b) col).val := by
  have h1 : b.val = 0 → 128 ≤ col.val := h.2
  rw [keyAt_val]
  show 256 * b.val + col.val = 128 + (256 * b.val + col.val - 128)
  omega

/-- The key windows hold the keys. -/
theorem windowK_real (H : Holds R V WO m) (s : Dev nD) (r : Fin 4) (f : cc0_scratch2.ty.Contents (Elt Ideal)) (h : Fin 8) (row : Fin 256)
    (col : Fin 512) (hc : InWindow (blockOf (back r s)) row col) (t : Fin 128) :
    window kM s r (keyBuf m s f) h (ix3 col 0 t) = (R.k (keyAt (blockOf (back r s)) col) (headAt s h) t : EReal) := by
  have hj : 128 + (keyAt (blockOf (back r s)) col).val < 1280 := by have := keyAt_lt (back r s) col; omega
  refine (windowK s r _ h col t).trans ((at_ix3 _ (key_row (back r s) hc) rfl rfl).trans
    ((keyBuf_apply m s f ⟨(keyAt (blockOf (back r s)) col).val, keyAt_lt _ _⟩ h t hj).trans ((keys_apply m s _ h t).trans ?_)))
  exact H.k s _ _ t

/-- The value windows hold the values. -/
theorem windowV_real (H : Holds R V WO m) (s : Dev nD) (r : Fin 4) (f : cc0_scratch3.ty.Contents (Elt Ideal)) (h : Fin 8) (row : Fin 256)
    (col : Fin 512) (hc : InWindow (blockOf (back r s)) row col) (t : Fin 128) :
    window vM s r (valBuf m s f) h (ix3 col 0 t) = V (keyAt (blockOf (back r s)) col) (headAt s h) t := by
  have hj : 128 + (keyAt (blockOf (back r s)) col).val < 1280 := by have := keyAt_lt (back r s) col; omega
  refine (windowV s r _ h col t).trans ((at_ix3 _ (key_row (back r s) hc) rfl rfl).trans
    ((valBuf_apply m s f ⟨(keyAt (blockOf (back r s)) col).val, keyAt_lt _ _⟩ h t hj).trans ((vals_apply m s _ h t).trans ?_)))
  exact H.v s _ _ t

/-- One row of one head of the block `r` places before the device's own. -/
theorem headRow_at (H : Holds R V WO m) (s : Dev nD) (r : Fin 4) (p : Pads Ideal) (row : Fin 256) (h : Fin 8) (d : Fin 128) :
    headRow (fun col => biasAt (F := Ideal) s (BitVec.ofNat 32 r.val) (ix2 row col))
        (fun t => queries (wqOf m s) (xSent m (back r s)) (ix2 row (colOf h t)))
        (window kM s r (keyBuf m s p.1) h) (window vM s r (valBuf m s p.2) h) d
      = R.context V (rowAt (back r s) row) (headAt s h) d :=
  headRow_real R V (back r s) row (headAt s h) d _ _ _ _ (biasAt_apply s r row) (queries_real H s (back r s) row h)
    (windowK_real H s r p.1 h row) (fun col hc => windowV_real H s r p.2 h row col hc d)

end Cert.Swa

end
-- ==== Proof.KernelResult.lean ====
/-
# The kernel's result over the reals

A device's partial result for a block is its 1024 columns' share of the result; the four devices' shares of a block add
up to the block of the result.
-/
module

public import proofs.«01_k».proof.Proof.KernelRow

@[expose] public section

noncomputable section

namespace Cert.Swa

open Cert.KernelIdeal Cert.KernelIdeal.Gen
open Idealize.ShloMosaic Idealize.ShloMosaic.TcCoe

/-- Device `s`'s share of the result at row `i` and column `n`: its 1024 columns of all heads. -/
def share (R : Reals) (V : Fin 4096 → Fin 32 → Fin 128 → EReal) (WO : Fin 4096 → Fin 1024 → EReal) (s : Dev nD) (i n : Fin 1024) : EReal :=
  ∑ c : Fin 1024, R.context V i (headOf (colOn s c)) (featOf (colOn s c)) * WO (colOn s c) n

/-- A column of a device's eight heads, as a head and a feature. -/
theorem col_split (c : Fin 1024) : ∃ (h : Fin 8) (d : Fin 128), c = colOf h d :=
  ⟨⟨c.val / 128, by omega⟩, ⟨c.val % 128, by omega⟩, Fin.ext (Nat.div_add_mod c.val 128).symm⟩

theorem headOf_col (s : Dev nD) (h : Fin 8) (d : Fin 128) : headOf (colOn s (colOf h d)) = headAt s h :=
  Fin.ext (by show (s.val * 1024 + (128 * h.val + d.val)) / 128 = 8 * s.val + h.val; omega)

theorem featOf_col (s : Dev nD) (h : Fin 8) (d : Fin 128) : featOf (colOn s (colOf h d)) = d :=
  Fin.ext (by show (s.val * 1024 + (128 * h.val + d.val)) % 128 = d.val; omega)

variable {R : Reals} {V : Fin 4096 → Fin 32 → Fin 128 → EReal} {WO : Fin 4096 → Fin 1024 → EReal}
  {m : (ℓ : Loc nD τ sig) → Buf (Elt Ideal) ℓ}

/-- Heads' averages times the rows of the output projection are a device's share. -/
theorem share_of (H : Holds R V WO m) (s : Dev nD) (i n : Fin 1024) (ctx : Fin 1024 → EReal)
    (hc : ∀ h d, ctx (colOf h d) = R.context V i (headAt s h) d) :
    ∑ c : Fin 1024, ctx c * woArg m s (ix2 c n) = share R V WO s i n := by
  refine Finset.sum_congr rfl fun c _ => ?_
  obtain ⟨h, d, rfl⟩ := col_split c
  rw [hc, H.wo, headOf_col, featOf_col]

theorem part256_apply (b : FVec Ideal S256x512 .f32) (q : FVec Ideal S256x1024 .f32) (k v : Fin 8 → Vec Ideal S512x1x128 .f32)
    (wo : FVec Ideal S1024x1024 .f32) (row : Fin 256) (n : Fin 1024) :
    part256 b q k v wo (ix3 0 row n) = ∑ c : Fin 1024, ctx256 b q k v (ix2 row c) * wo (ix2 c n) := by
  pointwise [part256]

theorem proj128_apply (ctx : FVec Ideal S128x1024 .f32) (wo : FVec Ideal S1024x1024 .f32) (row : Fin 128) (n : Fin 1024) :
    proj128 ctx wo (ix3 0 row n) = ∑ c : Fin 1024, ctx (ix2 row c) * wo (ix2 c n) := by
  pointwise [proj128]

/-- A device's partial result for the block `r` places before its own. -/
theorem partOf_apply (H : Holds R V WO m) (s : Dev nD) (r : Fin 4) (p : Pads Ideal) (row : Fin 256) (n : Fin 1024) :
    partOf m s r p (ix3 0 row n) = share R V WO s (rowAt (back r s) row) n :=
  (part256_apply _ _ _ _ (woArg m s) row n).trans
    (share_of H s _ n _ fun h d => (ctx256_apply _ _ _ _ row h d).trans (headRow_at H s r p row h d))

theorem slice_top (b : FVec Ideal S256x512 .f32) (row : Fin 128) (col : Fin 512) :
    extractStridedSlice S128x512 ![0, 0] b slices_S256x512_o0_0_S128x512 (ix2 row col) = b (ix2 (⟨row.val, by omega⟩ : Fin 256) col) := by
  pointwise

theorem slice_bot (b : FVec Ideal S256x512 .f32) (row : Fin 128) (col : Fin 512) :
    extractStridedSlice S128x512 ![128, 0] b slices_S256x512_o128_0_S128x512 (ix2 row col)
      = b (ix2 (⟨128 + row.val, by omega⟩ : Fin 256) col) := by
  pointwise

/-- The first half of its partial result for the block three places before its own. -/
theorem partTop_apply (H : Holds R V WO m) (s : Dev nD) (p : Pads Ideal) (row : Fin 128) (n : Fin 1024) :
    partTop m s p (ix3 0 row n) = share R V WO s (rowAt (back 3 s) ⟨row.val, by omega⟩) n := by
  refine (proj128_apply _ (woArg m s) row n).trans (share_of H s _ n _ fun h d => (ctxTop_apply _ _ _ _ row h d).trans ?_)
  exact (congrArg (fun g => headRow g (fun t => queries (wqOf m s) (xSent m (back 3 s)) (ix2 (⟨row.val, by omega⟩ : Fin 256) (colOf h t)))
      (window kM s 3 (keyBuf m s p.1) h) (window vM s 3 (valBuf m s p.2) h) d)
    (funext fun col => slice_top (biasAt (F := Ideal) s 3#32) row col)).trans (headRow_at H s 3 p ⟨row.val, by omega⟩ h d)

/-- The second half. -/
theorem partBot_apply (H : Holds R V WO m) (s : Dev nD) (p : Pads Ideal) (row : Fin 128) (n : Fin 1024) :
    partBot m s p (ix3 0 row n) = share R V WO s (rowAt (back 3 s) ⟨128 + row.val, by omega⟩) n := by
  refine (proj128_apply _ (woArg m s) row n).trans (share_of H s _ n _ fun h d => (ctxBot_apply _ _ _ _ row h d).trans ?_)
  exact (congrArg (fun g => headRow g (fun t => queries (wqOf m s) (xSent m (back 3 s)) (ix2 (⟨128 + row.val, by omega⟩ : Fin 256) (colOf h t)))
      (window kM s 3 (keyBuf m s p.1) h) (window vM s 3 (valBuf m s p.2) h) d)
    (funext fun col => slice_bot (biasAt (F := Ideal) s 3#32) row col)).trans (headRow_at H s 3 p ⟨128 + row.val, by omega⟩ h d)

/-- The two halves as one block. -/
theorem stack_apply (H : Holds R V WO m) (s : Dev nD) (p q : Pads Ideal) (row : Fin 256) (n : Fin 1024) :
    stack128 (partTop m s p) (partBot m s q) (ix3 0 row n) = share R V WO s (rowAt (back 3 s) row) n := by
  by_cases h : row.val < 128
  · have e : stack128 (partTop m s p) (partBot m s q) (ix3 0 row n) = partTop m s p (ix3 0 ⟨row.val, h⟩ n) := by
      refine (dif_pos h).trans (congrArg (partTop m s p) (funext fun a => ?_))
      fin_cases a <;> rfl
    exact e.trans (partTop_apply H s p ⟨row.val, h⟩ n)
  · have e : stack128 (partTop m s p) (partBot m s q) (ix3 0 row n) = partBot m s q (ix3 0 ⟨row.val - 128, by omega⟩ n) := by
      refine (dif_neg h).trans (congrArg (partBot m s q) (funext fun a => ?_))
      fin_cases a <;> rfl
    refine (e.trans (partBot_apply H s q ⟨row.val - 128, by omega⟩ n)).trans ?_
    rw [show (⟨128 + (row.val - 128), by omega⟩ : Fin 256) = row from Fin.ext (by show 128 + (row.val - 128) = row.val; omega)]

theorem add_apply (a : FVec Ideal S1x256x1024 .bf16) (b c d : FVec Ideal S1x256x1024 .bf16) (row : Fin 256) (n : Fin 1024) :
    (k0_pay80 (k0_pay79 (k0_pay78 a) b c) d : FVec Ideal S1x256x1024 .f32) (ix3 0 row n)
      = a (ix3 0 row n) + b (ix3 0 row n) + c (ix3 0 row n) + d (ix3 0 row n) := by
  pointwise [k0_pay80, k0_pay79, k0_pay78]

/-- Four shares from device `c` on around the ring are all shares. -/
theorem ring_sum (f : Dev nD → EReal) (c : Dev nD) : f c + f (fwd 1 c) + f (fwd 2 c) + f (fwd 3 c) = ∑ s : Fin 4, f s := by
  rw [Fin.sum_univ_four]
  obtain rfl | rfl | rfl | rfl : c = (0 : Fin 4) ∨ c = (1 : Fin 4) ∨ c = (2 : Fin 4) ∨ c = (3 : Fin 4) := by revert c; decide
  · rfl
  · show f (1 : Fin 4) + f (2 : Fin 4) + f (3 : Fin 4) + f (0 : Fin 4) = _
    abel
  · show f (2 : Fin 4) + f (3 : Fin 4) + f (0 : Fin 4) + f (1 : Fin 4) = _
    abel
  · show f (3 : Fin 4) + f (0 : Fin 4) + f (1 : Fin 4) + f (2 : Fin 4) = _
    abel

/-- All devices' shares are the result. -/
theorem share_sum (i n : Fin 1024) : ∑ s : Fin 4, share R V WO s i n = R.result V WO i n := by
  rw [Reals.result, Fin.sum_univ_tiles 4 1024 rfl]
  rfl

/-- A device's block of the result, whatever its buffers' padding held. -/
theorem resultOf_apply (H : Holds R V WO m) (c : Dev nD) (p : Fin 5 → Pads Ideal) (row : Fin 256) (n : Fin 1024) :
    resultOf m c p (ix3 0 row n) = R.result V WO (rowAt c row) n := by
  refine (add_apply _ _ _ _ row n).trans ?_
  rw [partOf_apply H, partOf_apply H, partOf_apply H, stack_apply H, back_fwd, back_fwd, back_fwd,
    show back 0 c = c by revert c; decide, ring_sum (fun s => share R V WO s (rowAt c row) n) c, share_sum]

end Cert.Swa

end
-- ==== Proof.ReferenceAt.lean ====
/-
# The reference at an index

The reference's result is the named stages below one after the other: mask, scores, exponentials, weights, output. Each
is read at one index, and over the real numbers the result is `Reals.result`.
-/
module

public import proofs.«01_k».proof.Proof.Formula
public import proofs.«01_k».proof.Proof.Masks
public import proofs.«01_k».proof.Proof.Gen.ReferenceIdeal.Run
public import Idealize.ShloMosaic.Lib.Pointwise

@[expose] public section

noncomputable section

namespace Cert.Swa

open Cert.ReferenceIdeal Cert.ReferenceIdeal.Gen Cert.ReferenceIdeal.Value
open Idealize.ShloMosaic Idealize.ShloMosaic.TcCoe

/-- The bits of minus infinity. -/
theorem neg_inf : Ideal.ofBits .f32 0xFF800000#32 = ⊥ := by simp [Ideal.ofBits, Ideal.ieee]

/-- The greatest of finitely many extended reals, folded from minus infinity. -/
theorem fold_max {n : ℕ} (S : Fin n → EReal) : Finset.fold max ⊥ S Finset.univ = Finset.univ.sup S := rfl

/-- Some key is near each row: the row's own. -/
theorem some_near (i : Fin 1024) :
    Finset.fold IntOp.ori (0#1) (fun j : Fin 4096 => if Near i.val j.val then 1#1 else 0#1) Finset.univ = 1#1 := by
  obtain ⟨j, hj⟩ := near_self i
  rw [← Finset.insert_erase (Finset.mem_univ j), Finset.fold_insert (Finset.notMem_erase j _), if_pos hj]
  generalize Finset.fold IntOp.ori (0#1) (fun j : Fin 4096 => if Near i.val j.val then 1#1 else 0#1) (Finset.univ.erase j) = b
  revert b
  decide

/-! ## The reference's stages -/

/-- Which keys each row attends to. -/
def refMask : IVec S1024x4096 1 :=
  cmpi .sle (absi (subi (broadcastInDim S1024x4096 ![0, 1] bcast_S1024x1_S1024x4096_0_1 (broadcastInDim S1024x1 ![0] bcast_S1024_S1024x1_0 (iotaInDim S1024 32 0)))
      (broadcastInDim S1024x4096 ![0, 1] bcast_S1x4096_S1024x4096_0_1 (broadcastInDim S1x4096 ![1] bcast_S4096_S1x4096_1 (iotaInDim S4096 32 0)))))
    (broadcastInDim S1024x4096 ![] bcast_S_S1024x4096 (constantI S_ 32 128#32))

/-- The scaled products of the projected rows with the keys, minus infinity off the mask. -/
def refScores (mask : IVec S1024x4096 1) (x : FVec Ideal S1x1024x1024 .f32) (wq : FVec Ideal S1024x4096 .f32) (k : FVec Ideal S1x4096x32x128 .f32) :
    FVec Ideal S1x32x1024x4096 .f32 :=
  select (broadcastInDim S1x32x1024x4096 ![0, 1, 2, 3] bcast_S1x1x1024x4096_S1x32x1024x4096_0_1_2_3
      (broadcastInDim S1x1x1024x4096 ![2, 3] bcast_S1024x4096_S1x1x1024x4096_2_3 mask))
    (mulf (Host.dotGeneral dot_S1x1024x32x128_S1x4096x32x128_S1x32x1024x4096_3_3_1_1_02_02 none
        (shapeCast _ (Host.dotGeneral dot_S1x1024x1024_S1024x4096_S1x1024x4096_2_0_01_1_n_n none x wq) shapeCasts_S1x1024x4096_S1x1024x32x128) k)
      (broadcastInDim S1x32x1024x4096 ![] bcast_S_S1x32x1024x4096 (constant S_ .f32 0x3DB504F3#32)))
    (broadcastInDim S1x32x1024x4096 ![] bcast_S_S1x32x1024x4096 (constant S_ .f32 0xFF800000#32))

/-- The exponentials of the scores less their row's greatest. -/
def refExps (s : FVec Ideal S1x32x1024x4096 .f32) : FVec Ideal S1x32x1024x4096 .f32 :=
  Host.exp (subf s (broadcastInDim S1x32x1024x4096 ![0, 1, 2, 3] bcast_S1x32x1024x1_S1x32x1024x4096_0_1_2_3
    (broadcastInDim S1x32x1024x1 ![0, 1, 2] bcast_S1x32x1024_S1x32x1024x1_0_1_2
      (Host.reduce FloatOps.maximumf s (constant S_ .f32 0xFF800000#32) reducesTo_S1x32x1024x4096_S1x32x1024_d3 h_S_))))

/-- The rows that attend to some key. -/
def refKeep : IVec S1024 1 := Host.reduce IntOp.ori refMask (constantI S_ 1 0#1) reducesTo_S1024x4096_S1024_d1 h_S_

/-- The normalised weights, zero in a row without keys. -/
def refWeights (keep : IVec S1024 1) (e : FVec Ideal S1x32x1024x4096 .f32) : FVec Ideal S1x32x1024x4096 .f32 :=
  select (broadcastInDim S1x32x1024x4096 ![0, 1, 2, 3] bcast_S1x1x1024x1_S1x32x1024x4096_0_1_2_3 (broadcastInDim S1x1x1024x1 ![2] bcast_S1024_S1x1x1024x1_2 keep))
    (Host.divf e (broadcastInDim S1x32x1024x4096 ![0, 1, 2, 3] bcast_S1x32x1024x1_S1x32x1024x4096_0_1_2_3
      (select (broadcastInDim S1x32x1024x1 ![0, 1, 2, 3] bcast_S1x1x1024x1_S1x32x1024x1_0_1_2_3 (broadcastInDim S1x1x1024x1 ![2] bcast_S1024_S1x1x1024x1_2 keep))
        (broadcastInDim S1x32x1024x1 ![0, 1, 2] bcast_S1x32x1024_S1x32x1024x1_0_1_2
          (Host.reduceAdd e (constant S_ .f32 0x00000000#32) reducesTo_S1x32x1024x4096_S1x32x1024_d3 h_S_))
        (broadcastInDim S1x32x1024x1 ![] bcast_S_S1x32x1024x1 (constant S_ .f32 0x3F800000#32)))))
    (broadcastInDim S1x32x1024x4096 ![] bcast_S_S1x32x1024x4096 (constant S_ .f32 0x00000000#32))

/-- The weights times the values, the heads side by side, times the output projection. -/
def refOut (v : FVec Ideal S1x4096x32x128 .f32) (w : FVec Ideal S1x32x1024x4096 .f32) (wo : FVec Ideal S4096x1024 .f32) :
    FVec Ideal S1x1024x1024 .f32 :=
  Host.dotGeneral dot_S1x1024x4096_S4096x1024_S1x1024x1024_2_0_01_1_n_n none
    (shapeCast _ (transpose S1x1024x32x128 [0, 3, 1, 2]
      (Host.dotGeneral dot_S1x4096x32x128_S1x32x1024x4096_S1x32x128x1024_1_3_3_2_02_01 none v w)
      transposes_S1x32x128x1024_S1x1024x32x128_0_3_1_2) shapeCasts_S1x1024x32x128_S1x1024x4096) wo

/-! ## The stages at an index -/

theorem refMask_apply (i : Fin 1024) (j : Fin 4096) : refMask (ix2 i j) = if Near i.val j.val then 1#1 else 0#1 := by
  have hn := bit_eq (p := Near i.val j.val) (dist_small (i := i.val) (j := j.val) (by omega) (by omega))
  rw [← hn]
  pointwise [refMask]

theorem refKeep_apply (i : Fin 1024) : refKeep (ix1 i) = 1#1 := by
  pointwise [refKeep, refMask_apply]
  exact some_near i

theorem refScores_apply (R : Reals) (mask : IVec S1024x4096 1) (hm : ∀ i j, mask (ix2 i j) = if Near i.val j.val then 1#1 else 0#1)
    (x : FVec Ideal S1x1024x1024 .f32) (wq : FVec Ideal S1024x4096 .f32) (k : FVec Ideal S1x4096x32x128 .f32)
    (hx : ∀ i t, x (ix3 0 i t) = (R.x i t : EReal)) (hw : ∀ t n, wq (ix2 t n) = (R.wq t n : EReal))
    (hk : ∀ j h d, k (ix4 0 j h d) = (R.k j h d : EReal)) (hs : Ideal.ofBits .f32 0x3DB504F3#32 = (R.scale : EReal))
    (h : Fin 32) (i : Fin 1024) (j : Fin 4096) :
    refScores mask x wq k (ix4 0 h i j) = if Near i.val j.val then (R.score i h j : EReal) else ⊥ := by
  pointwise [refScores, hm, hx, hw, hk, hs, neg_inf]
  by_cases hn : Near i.val j.val
  · rw [if_pos hn, if_pos hn, Reals.score]
    simp only [EReal.coe_mul, coe_sum, headCol, ValueIdx.select_one]
  · rw [if_neg hn, if_neg hn, ValueIdx.select_zero]

theorem refExps_apply (s : FVec Ideal S1x32x1024x4096 .f32) (h : Fin 32) (i : Fin 1024) (j : Fin 4096) :
    refExps s (ix4 0 h i j) = Ideal.exp (s (ix4 0 h i j) - Finset.univ.sup fun k : Fin 4096 => s (ix4 0 h i k)) := by
  pointwise [refExps, neg_inf, fold_max]

theorem refWeights_apply (keep : IVec S1024 1) (hk : ∀ i, keep (ix1 i) = 1#1) (e : FVec Ideal S1x32x1024x4096 .f32) (h : Fin 32) (i : Fin 1024) (j : Fin 4096) :
    refWeights keep e (ix4 0 h i j) = Ideal.div (e (ix4 0 h i j)) (∑ k : Fin 4096, e (ix4 0 h i k)) := by
  pointwise [refWeights, hk]

theorem refOut_apply (v : FVec Ideal S1x4096x32x128 .f32) (w : FVec Ideal S1x32x1024x4096 .f32) (wo : FVec Ideal S4096x1024 .f32)
    (i n : Fin 1024) :
    refOut v w wo (ix3 0 i n) = ∑ c : Fin 4096, (∑ j : Fin 4096, v (ix4 0 j (headOf c) (featOf c)) * w (ix4 0 (headOf c) i j)) * wo (ix2 c n) := by
  pointwise [refOut, headOf, featOf]

theorem ref_eq (m : (ℓ : Loc nD τ sig) → Buf (Elt Ideal) ℓ) (c : Dev nD) :
    res_main_v34 m c = refOut (m ((c.tc : Thread nD τ).loc main_arg3))
      (refWeights refKeep (refExps (refScores refMask (m ((c.tc : Thread nD τ).loc main_arg0)) (m ((c.tc : Thread nD τ).loc main_arg1)) (m ((c.tc : Thread nD τ).loc main_arg2)))))
      (m ((c.tc : Thread nD τ).loc main_arg4)) := rfl

/-- The reference's result over the reals. -/
theorem ref_apply (R : Reals) (m : (ℓ : Loc nD τ sig) → Buf (Elt Ideal) ℓ) (c : Dev nD)
    (x : FVec Ideal S1x1024x1024 .f32) (hx' : x = m ((c.tc : Thread nD τ).loc main_arg0))
    (wq : FVec Ideal S1024x4096 .f32) (hw' : wq = m ((c.tc : Thread nD τ).loc main_arg1))
    (k : FVec Ideal S1x4096x32x128 .f32) (hk' : k = m ((c.tc : Thread nD τ).loc main_arg2))
    (v : FVec Ideal S1x4096x32x128 .f32) (hv' : v = m ((c.tc : Thread nD τ).loc main_arg3))
    (wo : FVec Ideal S4096x1024 .f32) (ho' : wo = m ((c.tc : Thread nD τ).loc main_arg4))
    (hx : ∀ i t, x (ix3 0 i t) = (R.x i t : EReal)) (hw : ∀ t n, wq (ix2 t n) = (R.wq t n : EReal))
    (hk : ∀ j h d, k (ix4 0 j h d) = (R.k j h d : EReal)) (hs : Ideal.ofBits .f32 0x3DB504F3#32 = (R.scale : EReal)) (i n : Fin 1024) :
    res_main_v34 m c (ix3 (0 : Fin 1) i n)
      = R.result (fun j h d => v (ix4 0 j h d)) (fun t n => wo (ix2 t n)) i n := by
  have h : res_main_v34 m c = refOut v (refWeights refKeep (refExps (refScores refMask x wq k))) wo := by
    rw [hx', hw', hk', hv', ho']
    exact ref_eq m c
  refine (congrFun h _).trans ((refOut_apply _ _ _ i n).trans ?_)
  rw [Reals.result]
  refine Finset.sum_congr rfl fun t _ => ?_
  refine congrArg (fun z => z * wo (ix2 t n)) (?_ : _ = R.context (fun j h d => v (ix4 0 j h d)) i (headOf t) (featOf t))
  have hS := fun j => refScores_apply R refMask refMask_apply x wq k hx hw hk hs (headOf t) i j
  obtain ⟨M, hM⟩ := sup_real (fun j : Fin 4096 => Near i.val j.val) (R.score i (headOf t)) (near_self i)
    (fun j => refScores refMask x wq k (ix4 0 (headOf t) i j)) hS
  rw [Reals.context, ← attend_of_weights (fun j : Fin 4096 => Near i.val j.val) (R.score i (headOf t))
    (fun j => v (ix4 0 j (headOf t) (featOf t))) (near_self i) M (fun j => refScores refMask x wq k (ix4 0 (headOf t) i j)) hS]
  refine Finset.sum_congr rfl fun j _ => ?_
  simp only [refWeights_apply refKeep refKeep_apply, refExps_apply, hM]

end Cert.Swa

end
-- ==== Proof.Precondition.lean ====
/-
# What the precondition says

`finite` compares the absolute value of every element of the rows, the query projection and the keys with plus
infinity: where it is all ones, each of these elements is a real number.
-/
module

public import proofs.«01_k».proof.Proof.Gen.Pre_finite_KernelIdeal
public import Idealize.ShloMosaic.Lib.ReduceAll
public import Idealize.ShloMosaic.Lib.Pointwise

@[expose] public section

noncomputable section

namespace Cert.Swa

open Cert.Pre_finite_KernelIdeal
open Idealize.ShloMosaic

/-- An extended real whose absolute value is below plus infinity is a real number. -/
theorem real_of_abs_lt (x : EReal) (h : max x (-x) < ⊤) : x = (x.toReal : EReal) := by
  refine (EReal.coe_toReal (fun e => ?_) fun e => ?_).symm
  · exact absurd (e ▸ h : max (⊤ : EReal) (-⊤) < ⊤) (by simp)
  · exact absurd (e ▸ h : max (⊥ : EReal) (-⊥) < ⊤) (by simp)

theorem pos_inf : Ideal.ofBits .f32 0x7F800000#32 = ⊤ := by simp [Ideal.ofBits, Ideal.ieee]

/-- An array all of whose absolute values are below plus infinity holds real numbers. -/
theorem reals_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : x i = ((x i).toReal : EReal) := by
  have : Subsingleton S_.Idx := ⟨fun a b => funext fun k => k.elim0⟩
  have h := Host.reduce_andi_all _ _ hr hu j e i
  have h' : Ideal.cmp .olt (max (x i) (-(x i))) (Ideal.ofBits .f32 0x7F800000#32) = 1#1 := h
  rw [pos_inf] at h'
  refine real_of_abs_lt (x i) ?_
  by_contra hn
  simp [Ideal.cmp, hn] at h'

/-- The precondition of one device's arguments: its rows, columns of the projection and keys are real numbers. -/
theorem reals_of_finite [Facts] (a0 : FVec Ideal S1x256x1024 .f32) (a1 : FVec Ideal S1024x1024 .f32) (a2 a3 : FVec Ideal S1x4096x32x128 .f32)
    (a4 : FVec Ideal S1024x1024 .f32) (h : fn a0 a1 a2 a3 a4 = fun _ => 1#1) :
    (∀ i, a0 i = ((a0 i).toReal : EReal)) ∧ (∀ i, a1 i = ((a1 i).toReal : EReal)) ∧ ∀ i, a2 i = ((a2 i).toReal : EReal) := by
  have h0 := congrFun h (fun k => k.elim0)
  obtain ⟨h1, h2⟩ := IntOp.andi_eq_one.1 h0
  obtain ⟨h3, h4⟩ := IntOp.andi_eq_one.1 h1
  exact ⟨reals_of_all a0 Facts.bcast_S_S1x256x1024 Facts.reducesTo_S1x256x1024_S_d0_1_2 Facts.h_S_ _ h3,
    reals_of_all a1 Facts.bcast_S_S1024x1024 Facts.reducesTo_S1024x1024_S_d0_1 Facts.h_S_ _ h4,
    reals_of_all a2 Facts.bcast_S_S1x4096x32x128 Facts.reducesTo_S1x4096x32x128_S_d0_1_2_3 Facts.h_S_ _ h2⟩

end Cert.Swa

end
-- ==== Proof.Algebraic.lean ====
/-
# The value claim

The devices' blocks of the kernel's result are the blocks of the reference's result: both are `Reals.result` of the
arrays that the arguments are blocks or copies of.
-/
module

public import proofs.«01_k».proof.Defs
public import proofs.«01_k».proof.Proof.Launch
public import proofs.«01_k».proof.Proof.KernelResult
public import proofs.«01_k».proof.Proof.ReferenceAt
public import proofs.«01_k».proof.Proof.Precondition

@[expose] public section

noncomputable section

namespace Cert.Swa

open Idealize.ShloMosaic Idealize.ShloMosaic.TcCoe Idealize.SL.Sem

/-- The kernel's memories and the reference's. -/
abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

/-- The reference's arguments, as arrays. -/
def rX (m' : RMem) : FVec Ideal Cert.ReferenceIdeal.S1x1024x1024 .f32 :=
  m' (((0 : Dev Cert.ReferenceIdeal.nD).tc : Thread Cert.ReferenceIdeal.nD Cert.ReferenceIdeal.τ).loc Cert.ReferenceIdeal.main_arg0)
def rWq (m' : RMem) : FVec Ideal Cert.ReferenceIdeal.S1024x4096 .f32 :=
  m' (((0 : Dev Cert.ReferenceIdeal.nD).tc : Thread Cert.ReferenceIdeal.nD Cert.ReferenceIdeal.τ).loc Cert.ReferenceIdeal.main_arg1)
def rK (m' : RMem) : FVec Ideal Cert.ReferenceIdeal.S1x4096x32x128 .f32 :=
  m' (((0 : Dev Cert.ReferenceIdeal.nD).tc : Thread Cert.ReferenceIdeal.nD Cert.ReferenceIdeal.τ).loc Cert.ReferenceIdeal.main_arg2)
def rV (m' : RMem) : FVec Ideal Cert.ReferenceIdeal.S1x4096x32x128 .f32 :=
  m' (((0 : Dev Cert.ReferenceIdeal.nD).tc : Thread Cert.ReferenceIdeal.nD Cert.ReferenceIdeal.τ).loc Cert.ReferenceIdeal.main_arg3)
def rWo (m' : RMem) : FVec Ideal Cert.ReferenceIdeal.S4096x1024 .f32 :=
  m' (((0 : Dev Cert.ReferenceIdeal.nD).tc : Thread Cert.ReferenceIdeal.nD Cert.ReferenceIdeal.τ).loc Cert.ReferenceIdeal.main_arg4)

/-- The layout of the arguments: blocks of the rows and of the projections, copies of keys and values. -/
structure LaidOut (m : KMem) (m' : RMem) : Prop where
  x : ∀ c, xArg m c = Layout.block ⟨3, ![1, 256, 1024]⟩ ⟨3, ![1, 1024, 1024]⟩ 1 4 c (rX m')
  wq : ∀ c, wqArg m c = Layout.block ⟨2, ![1024, 1024]⟩ ⟨2, ![1024, 4096]⟩ 1 4 c (rWq m')
  k : ∀ c, kArg m c = rK m'
  v : ∀ c, vArg m c = rV m'
  wo : ∀ c, woArg m c = Layout.block ⟨2, ![1024, 1024]⟩ ⟨2, ![4096, 1024]⟩ 0 4 c (rWo m')

/-- The real numbers the reference's arguments are. -/
def realsOf (m' : RMem) : Reals where
  x i t := (rX m' (ix3 0 i t)).toReal
  wq t n := (rWq m' (ix2 t n)).toReal
  k j h d := (rK m' (ix4 0 j h d)).toReal
  scale := (Ideal.ofBits .f32 0x3DB504F3#32).toReal

theorem scale_real : Ideal.ofBits .f32 0x3DB504F3#32 = ((Ideal.ofBits .f32 0x3DB504F3#32).toReal : EReal) := by
  refine (EReal.coe_toReal ?_ ?_).symm <;> simp [Ideal.ofBits, Ideal.ieee] <;> rw [← EReal.coe_mul]
  · exact EReal.coe_ne_top _
  · exact EReal.coe_ne_bot _

variable {m : KMem} {m' : RMem}

/-- A device's elements, as elements of the arrays they are cut from. -/
theorem LaidOut.x_at (L : LaidOut m m') (s : Dev Cert.KernelIdeal.nD) (row : Fin 256) (t : Fin 1024) :
    xArg m s (ix3 0 row t) = rX m' (ix3 0 (rowAt s row) t) := by
  rw [L.x, Layout.block_apply]
  refine congrArg (rX m') (funext fun a => Fin.ext ?_)
  fin_cases a
  · rfl
  · exact congrArg (· + row.val) (Nat.mul_comm s.val 256)
  · rfl

theorem LaidOut.wq_at (L : LaidOut m m') (s : Dev Cert.KernelIdeal.nD) (t c : Fin 1024) :
    wqArg m s (ix2 t c) = rWq m' (ix2 t (colOn s c)) := by
  rw [L.wq, Layout.block_apply]
  refine congrArg (rWq m') (funext fun a => Fin.ext ?_)
  fin_cases a <;> rfl

theorem LaidOut.wo_at (L : LaidOut m m') (s : Dev Cert.KernelIdeal.nD) (c n : Fin 1024) :
    woArg m s (ix2 c n) = rWo m' (ix2 (colOn s c) n) := by
  rw [L.wo, Layout.block_apply]
  refine congrArg (rWo m') (funext fun a => Fin.ext ?_)
  fin_cases a <;> rfl

/-- A row of the whole array is a row of some device's block; a column of the projection is a column of some device's. -/
theorem row_cut (i : Fin 1024) : ∃ s row, i = rowAt s row :=
  ⟨(⟨i.val / 256, by omega⟩ : Fin 4), ⟨i.val % 256, by omega⟩, Fin.ext (Nat.div_add_mod i.val 256).symm⟩
theorem col_cut (n : Fin 4096) : ∃ s c, n = colOn s c :=
  ⟨(⟨n.val / 1024, by omega⟩ : Fin 4), ⟨n.val % 1024, by omega⟩, Fin.ext (by show n.val = n.val / 1024 * 1024 + n.val % 1024; omega)⟩

/-- The precondition makes the reference's rows, query projection and keys real numbers. -/
theorem reals_held (L : LaidOut m m') (P : Cert.Pre_KernelIdeal_finite_KernelIdeal m) :
    (∀ i t, rX m' (ix3 0 i t) = ((realsOf m').x i t : EReal)) ∧ (∀ t n, rWq m' (ix2 t n) = ((realsOf m').wq t n : EReal))
      ∧ ∀ j h d, rK m' (ix4 0 j h d) = ((realsOf m').k j h d : EReal) := by
  have F := fun c => reals_of_finite (xArg m c) (wqArg m c) (kArg m c) (vArg m c) (woArg m c) (P c)
  refine ⟨fun i t => ?_, fun t n => ?_, fun j h d => ?_⟩
  · obtain ⟨s, row, rfl⟩ := row_cut i
    have e := (F s).1 (ix3 0 row t)
    rw [L.x_at] at e
    exact e
  · obtain ⟨s, c, rfl⟩ := col_cut n
    have e := (F s).2.1 (ix2 t c)
    rw [L.wq_at] at e
    exact e
  · have e := (F (0 : Fin 4)).2.2 (ix4 0 j h d)
    rw [L.k] at e
    exact e

/-- The devices hold the blocks of these numbers. -/
theorem holds_of (L : LaidOut m m') (P : Cert.Pre_KernelIdeal_finite_KernelIdeal m) :
    Holds (realsOf m') (fun j h d => rV m' (ix4 0 j h d)) (fun t n => rWo m' (ix2 t n)) m where
  x s row t := (L.x_at s row t).trans ((reals_held L P).1 _ t)
  wq s t c := (L.wq_at s t c).trans ((reals_held L P).2.1 t _)
  k s j h d := (congrFun (L.k s) _).trans ((reals_held L P).2.2 j h d)
  v s j h d := congrFun (L.v s) _
  wo s c n := L.wo_at s c n
  scale := scale_real

/-- A device's block of the result, whatever the padding, is its block of the reference's result. -/
theorem result_block (L : LaidOut m m') (P : Cert.Pre_KernelIdeal_finite_KernelIdeal m) (c : Dev Cert.KernelIdeal.nD) (p : Fin 5 → Pads Ideal) :
    resultOf m c p = Layout.block ⟨3, ![1, 256, 1024]⟩ ⟨3, ![1, 1024, 1024]⟩ 1 4 c
      (Cert.ReferenceIdeal.Value.res_main_v34 m' (0 : Dev Cert.ReferenceIdeal.nD)) := by
  funext i
  obtain ⟨a, row, n, rfl⟩ : ∃ (a : Fin 1) (row : Fin 256) (n : Fin 1024), i = ix3 a row n := ⟨i 0, i 1, i 2, by funext k; fin_cases k <;> rfl⟩
  obtain rfl : a = 0 := Subsingleton.elim _ _
  obtain ⟨hx, hw, hk⟩ := reals_held L P
  rw [Layout.block_apply]
  refine (resultOf_apply (holds_of L P) c p row n).trans ((ref_apply (realsOf m') m' 0 (rX m') rfl (rWq m') rfl (rK m') rfl (rV m') rfl (rWo m') rfl
    hx hw hk scale_real (rowAt c row) n).symm.trans (congrArg (Cert.ReferenceIdeal.Value.res_main_v34 m' 0) (funext fun a => Fin.ext ?_)))
  fin_cases a
  · rfl
  · exact congrArg (· + row.val) (Nat.mul_comm 256 c.val)
  · rfl

/-- The value claim. -/
theorem algebraic : Cert.algebraic_KernelIdeal_ReferenceIdeal_pre_finite_KernelIdeal := fun m g m' g' P A => by
  have L : LaidOut m m' := ⟨fun c => (A c).1, fun c => (A c).2.1, fun c => (A c).2.2.1, fun c => (A c).2.2.2.1, fun c => (A c).2.2.2.2⟩
  refine ⟨Cert.ReferenceIdeal.Value.res_main_v34 m' (0 : Dev Cert.ReferenceIdeal.nD), ?_, ?_⟩
  · refine (θ_run _ _ _).mono (fun r h c => ?_) (run_main m g)
    obtain ⟨hargs, p, hv⟩ := h.1 c
    exact ⟨hv.trans (result_block L P c p), hargs⟩
  · exact (θ_run _ _ _).mono (fun r h => h (0 : Dev Cert.ReferenceIdeal.nD)) (Cert.ReferenceIdeal.Value.run m' g')

end Cert.Swa

end
-- ==== Proof.lean ====
/-
# The claims

The kernel's and its ideal form's runs, the reference's run, the agreement of the kernel with its ideal form at the bits,
and the value claim: the devices' results are the blocks of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Swa

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, frame_ideal_finite, frame_reference, frame_reference_finite,
    preserved, algebraic⟩

end Cert.Proof

end
